-- ==== Defs.lean ====
def Pre_KernelIdeal [hPre_picks_in_whole_slabs : Cert.Pre_picks_in_whole_slabs.Facts] (m : (ℓ : Loc Cert.KernelIdeal.nD Cert.KernelIdeal.τ Cert.KernelIdeal.sig) → Buf (Elt Ideal) ℓ) : Prop :=
  ∀ c : Dev Cert.KernelIdeal.nD,
    (Cert.Pre_picks_in_whole_slabs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_picks_in_whole_slabs [hPre_picks_in_whole_slabs : Cert.Pre_picks_in_whole_slabs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_picks_in_whole_slabs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] [hPre_picks_in_whole_slabs : Cert.Pre_picks_in_whole_slabs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_picks_in_whole_slabs [hReferenceIdeal : Cert.ReferenceIdeal.Facts] [hPre_picks_in_whole_slabs : Cert.Pre_picks_in_whole_slabs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_picks_in_whole_slabs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] [hPre_picks_in_whole_slabs : Cert.Pre_picks_in_whole_slabs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_picks_in_whole_slabs : Cert.Pre_picks_in_whole_slabs.Facts),
    quiescent_KernelIdeal (hKernelIdeal := hKernelIdeal) (hPre_picks_in_whole_slabs := hPre_picks_in_whole_slabs)
    ∧ quiescent_ReferenceIdeal (hReferenceIdeal := hReferenceIdeal)
    ∧ quiescent_ReferenceIdeal_pre_picks_in_whole_slabs (hReferenceIdeal := hReferenceIdeal) (hPre_picks_in_whole_slabs := hPre_picks_in_whole_slabs)
    ∧ algebraic_KernelIdeal_ReferenceIdeal (hKernelIdeal := hKernelIdeal) (hReferenceIdeal := hReferenceIdeal) (hPre_picks_in_whole_slabs := hPre_picks_in_whole_slabs)
-- ==== Pre_picks_in_whole_slabs.lean ====
abbrev S16x20000x91 : Shape := ⟨3, ![16, 20000, 91]⟩
abbrev S16x20000x4 : Shape := ⟨3, ![16, 20000, 4]⟩
abbrev S16x20000x1 : Shape := ⟨3, ![16, 20000, 1]⟩
abbrev S16x2 : Shape := ⟨2, ![16, 2]⟩
abbrev S_ : Shape := ⟨0, ![]⟩
abbrev S16x1820000 : Shape := ⟨2, ![16, 1820000]⟩
abbrev S16x100 : Shape := ⟨2, ![16, 100]⟩

class Facts : Prop where
  bcast_S_S16x20000x91 : S_.BroadcastsInDim S16x20000x91 (![] : Fin 0 → Fin S16x20000x91.rank)
  shapeCasts_S16x20000x91_S16x1820000 : S16x20000x91.ShapeCasts S16x1820000
  sliceFits_S16x1820000_S16x100 : S16x1820000.Slices (fun _ => 0) S16x100
  bcast_S_S16x100 : S_.BroadcastsInDim S16x100 (![] : Fin 0 → Fin S16x100.rank)

variable [Facts]

def fn {F : FTy → Type} [FloatOps F] (main_arg0 : FVec F S16x20000x91 .f32) (main_arg1 : FVec F S16x20000x4 .f32) (main_arg2 : FVec F S16x20000x1 .f32) (main_arg3 : IVec S16x2 32) : IVec S16x100 1 :=
  let main_v0 : FVec F S16x20000x91 .f32 := Host.negf main_arg0
  let main_v1 : FVec F S16x20000x91 .f32 := Host.exp main_v0
  let main_cst : FVec F S_ .f32 := constant S_ .f32 0x3F800000#32
  let main_v2 : FVec F S16x20000x91 .f32 := broadcastInDim S16x20000x91 ![] bcast_S_S16x20000x91 main_cst
  let main_v3 : FVec F S16x20000x91 .f32 := addf main_v2 main_v1
  let main_cst_0 : FVec F S_ .f32 := constant S_ .f32 0x3F800000#32
  let main_v4 : FVec F S16x20000x91 .f32 := broadcastInDim S16x20000x91 ![] bcast_S_S16x20000x91 main_cst_0
  let main_v5 : FVec F S16x20000x91 .f32 := Host.divf main_v4 main_v3
  let main_v6 : FVec F S16x1820000 .f32 := shapeCast S16x1820000 main_v5 shapeCasts_S16x20000x91_S16x1820000
  let main_values : FVec F S16x100 .f32 := (fun x => (Host.topK S16x100 1 (FloatOps.cmpfTotal .gt) x sliceFits_S16x1820000_S16x100).1) main_v6
  let main_indices : IVec S16x100 32 := (fun x => (Host.topK S16x100 1 (FloatOps.cmpfTotal .gt) x sliceFits_S16x1820000_S16x100).2) main_v6
  let main_c : IVec S_ 32 := constantI S_ 32 1817088#32
  let main_v7 : IVec S16x100 32 := broadcastInDim S16x100 ![] bcast_S_S16x100 main_c
  let main_v8 : IVec S16x100 1 := cmpi .slt main_indices main_v7
  main_v8
-- ==== KernelIdeal.lean ====
abbrev S16x20000x91 : Shape := ⟨3, ![16, 20000, 91]⟩
abbrev S16x20000x4 : Shape := ⟨3, ![16, 20000, 4]⟩
abbrev S16x20000x1 : Shape := ⟨3, ![16, 20000, 1]⟩
abbrev S16x2 : Shape := ⟨2, ![16, 2]⟩
abbrev S16x625x128 : Shape := ⟨3, ![16, 625, 128]⟩
abbrev S16x1x2 : Shape := ⟨3, ![16, 1, 2]⟩
abbrev S16x1x100 : Shape := ⟨3, ![16, 1, 100]⟩
abbrev S16x1x4x100 : Shape := ⟨4, ![16, 1, 4, 100]⟩
abbrev S1x1x2 : Shape := ⟨3, ![1, 1, 2]⟩
abbrev S1x1x100 : Shape := ⟨3, ![1, 1, 100]⟩
abbrev S1x1x4x100 : Shape := ⟨4, ![1, 1, 4, 100]⟩
abbrev S2x20000x91 : Shape := ⟨3, ![2, 20000, 91]⟩
abbrev S2x625x128 : Shape := ⟨3, ![2, 625, 128]⟩
abbrev S_ : Shape := ⟨0, ![]⟩
abbrev S1x20000x91 : Shape := ⟨3, ![1, 20000, 91]⟩
abbrev S20000x91 : Shape := ⟨2, ![20000, 91]⟩
abbrev S1x625x128 : Shape := ⟨3, ![1, 625, 128]⟩
abbrev S625x128 : Shape := ⟨2, ![625, 128]⟩
abbrev S2x128 : Shape := ⟨2, ![2, 128]⟩
abbrev S160x91 : Shape := ⟨2, ![160, 91]⟩
abbrev S80x91 : Shape := ⟨2, ![80, 91]⟩
abbrev S1x80x91 : Shape := ⟨3, ![1, 80, 91]⟩
abbrev S1 : Shape := ⟨1, ![1]⟩
abbrev S1x1x1 : Shape := ⟨3, ![1, 1, 1]⟩
abbrev S1x128 : Shape := ⟨2, ![1, 128]⟩
abbrev S8x91 : Shape := ⟨2, ![8, 91]⟩
abbrev S8x128 : Shape := ⟨2, ![8, 128]⟩
abbrev S1x2x128 : Shape := ⟨3, ![1, 2, 128]⟩
abbrev S1x8x128 : Shape := ⟨3, ![1, 8, 128]⟩
abbrev S1x100 : Shape := ⟨2, ![1, 100]⟩
abbrev S1x1x1x100 : Shape := ⟨4, ![1, 1, 1, 100]⟩
abbrev S16x100 : Shape := ⟨2, ![16, 100]⟩
abbrev S16x4x100 : Shape := ⟨3, ![16, 4, 100]⟩
abbrev S16x100x4 : Shape := ⟨3, ![16, 100, 4]⟩

abbrev nBuf : Space → Nat
  | .hbm => 14
  | .vmem => 8
  | .smem => 2
  | _ => 0

abbrev bufTy : (tb : Table) → Fin (tcTables nBuf tb) → BufTy
  | .hbm, ⟨0, _⟩ => ⟨S16x20000x91, .f32⟩
  | .hbm, ⟨1, _⟩ => ⟨S16x20000x4, .f32⟩
  | .hbm, ⟨2, _⟩ => ⟨S16x20000x1, .f32⟩
  | .hbm, ⟨3, _⟩ => ⟨S16x2, .i32⟩
  | .hbm, ⟨4, _⟩ => ⟨S16x625x128, .f32⟩
  | .hbm, ⟨5, _⟩ => ⟨S16x2, .f32⟩
  | .hbm, ⟨6, _⟩ => ⟨S16x1x2, .f32⟩
  | .hbm, ⟨7, _⟩ => ⟨S16x1x100, .f32⟩
  | .hbm, ⟨8, _⟩ => ⟨S16x1x100, .i32⟩
  | .hbm, ⟨9, _⟩ => ⟨S16x1x4x100, .f32⟩
  | .hbm, ⟨10, _⟩ => ⟨S16x100, .f32⟩
  | .hbm, ⟨11, _⟩ => ⟨S16x100, .i32⟩
  | .hbm, ⟨12, _⟩ => ⟨S16x4x100, .f32⟩
  | .hbm, ⟨13, _⟩ => ⟨S16x100x4, .f32⟩
  | .local _ .vmem, ⟨0, _⟩ => ⟨S1x1x100, .f32⟩
  | .local _ .vmem, ⟨1, _⟩ => ⟨S1x1x100, .f32⟩
  | .local _ .vmem, ⟨2, _⟩ => ⟨S1x1x100, .i32⟩
  | .local _ .vmem, ⟨3, _⟩ => ⟨S1x1x100, .i32⟩
  | .local _ .vmem, ⟨4, _⟩ => ⟨S1x1x4x100, .f32⟩
  | .local _ .vmem, ⟨5, _⟩ => ⟨S1x1x4x100, .f32⟩
  | .local _ .vmem, ⟨6, _⟩ => ⟨S2x20000x91, .f32⟩
  | .local _ .vmem, ⟨7, _⟩ => ⟨S2x625x128, .f32⟩
  | .local _ .smem, ⟨0, _⟩ => ⟨S1x1x2, .f32⟩
  | .local _ .smem, ⟨1, _⟩ => ⟨S1x1x2, .f32⟩
  | _, _ => ⟨S16x20000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let c0_i32_1 : BitVec 32 := 0#32
  let c0_i32_2 : BitVec 32 := 0#32
  ![v0.toNat, 0, 0]
def k0_off2 (i : grid0.Coords) : Fin 3 → Nat :=
  let arg0 : BitVec 32 := BitVec.ofNat 32 (i 0).val
  let c0_i32_3 : BitVec 32 := 0#32
  let c0_i32_4 : BitVec 32 := 0#32
  ![arg0.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_5 : BitVec 32 := 0#32
  let c0_i32_6 : BitVec 32 := 0#32
  ![v0.toNat, 0, 0]
def k0_off4 (i : grid0.Coords) : Fin 3 → Nat :=
  let arg0 : BitVec 32 := BitVec.ofNat 32 (i 0).val
  let c0_i32_7 : BitVec 32 := 0#32
  let c0_i32_8 : BitVec 32 := 0#32
  ![arg0.toNat, 0, 0]
def k0_cond2 (i : grid0.Coords) : BitVec 1 :=
  let arg0 : BitVec 32 := BitVec.ofNat 32 (i 0).val
  let c1_i32 : BitVec 32 := 1#32
  let v12 : BitVec 32 := Scalar.addi arg0 c1_i32
  let c16_i32 : BitVec 32 := 16#32
  let v13 : BitVec 1 := Scalar.cmpi .slt v12 c16_i32
  let v14 : BitVec 32 := Scalar.extui v13
  let c0_i32_9 : BitVec 32 := 0#32
  let v15 : BitVec 1 := Scalar.cmpi .ne v14 c0_i32_9
  v15

def k0_off5 (i : grid0.Coords) : Fin 3 → Nat :=
  let c1_i32_43 : BitVec 32 := 1#32
  let arg0 : BitVec 32 := BitVec.ofNat 32 (i 0).val
  let c2_i32 : BitVec 32 := 2#32
  let v0 : BitVec 32 := Scalar.remsi arg0 c2_i32
  let v59 : BitVec 32 := Scalar.subi c1_i32_43 v0
  let c0_i32_44 : BitVec 32 := 0#32
  let c0_i32_45 : BitVec 32 := 0#32
  ![v59.toNat, 0, 0]
def k0_off6 (i : grid0.Coords) : Fin 3 → Nat :=
  let arg0 : BitVec 32 := BitVec.ofNat 32 (i 0).val
  let c1_i32_42 : BitVec 32 := 1#32
  let v58 : BitVec 32 := Scalar.addi arg0 c1_i32_42
  let c0_i32_46 : BitVec 32 := 0#32
  let c0_i32_47 : BitVec 32 := 0#32
  ![v58.toNat, 0, 0]
def k0_off7 (i : grid0.Coords) : Fin 3 → Nat :=
  let c1_i32_49 : BitVec 32 := 1#32
  let arg0 : BitVec 32 := BitVec.ofNat 32 (i 0).val
  let c2_i32 : BitVec 32 := 2#32
  let v0 : BitVec 32 := Scalar.remsi arg0 c2_i32
  let v65 : BitVec 32 := Scalar.subi c1_i32_49 v0
  let c0_i32_50 : BitVec 32 := 0#32
  let c0_i32_51 : BitVec 32 := 0#32
  ![v65.toNat, 0, 0]
def k0_off8 (i : grid0.Coords) : Fin 3 → Nat :=
  let arg0 : BitVec 32 := BitVec.ofNat 32 (i 0).val
  let c1_i32_48 : BitVec 32 := 1#32
  let v64 : BitVec 32 := Scalar.addi arg0 c1_i32_48
  let c0_i32_52 : BitVec 32 := 0#32
  let c0_i32_53 : BitVec 32 := 0#32
  ![v64.toNat, 0, 0]
@[reducible] def k0_t1_loop : Scf.Loop 32 :=
  let c0_i32_10 : BitVec 32 := 0#32
  let c125_i32 : BitVec 32 := 125#32
  let v19 : BitVec 32 := Scalar.addi c0_i32_10 c125_i32
  let c1_i32_11 : BitVec 32 := 1#32
  ⟨c0_i32_10, v19, c1_i32_11⟩
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_42 : BitVec 32 := 0#32
  let c0_i32_43 : BitVec 32 := 0#32
  ![v0.toNat, 0, 0]
def k0_off10 (k0_t1 : Fin k0_t1_loop.trips) : Fin 2 → Nat :=
  let c0_i32_10 : BitVec 32 := 0#32
  let c1_i32_11 : BitVec 32 := 1#32
  let arg11 : BitVec 32 := Scf.iv c0_i32_10 c1_i32_11 k0_t1
  let c160_i32 : BitVec 32 := 160#32
  let v58 : BitVec 32 := Scalar.muli arg11 c160_i32
  let v61 : Index := Scalar.indexCast v58
  let c0_44 : Index := 0#32
  ![v61.toNat, 0]
@[reducible] def k0_t2_loop : Scf.Loop 32 :=
  let c0_i32_19 : BitVec 32 := 0#32
  let c100_i32 : BitVec 32 := 100#32
  let v32 : BitVec 32 := Scalar.addi c0_i32_19 c100_i32
  let c1_i32_20 : BitVec 32 := 1#32
  ⟨c0_i32_19, v32, c1_i32_20⟩
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_45 : BitVec 32 := 0#32
  let c0_i32_46 : BitVec 32 := 0#32
  ![v0.toNat, 0, 0]
def k0_off12 (v72 : BitVec 32) : Fin 2 → Nat :=
  let c80_i32 : BitVec 32 := 80#32
  let v73 : BitVec 32 := Scalar.muli v72 c80_i32
  let v76 : Index := Scalar.indexCast v73
  let c0_47 : Index := 0#32
  ![v76.toNat, 0]

def k0_chk1 (v72 : BitVec 32) : Prop :=
  (∀ a, (k0_off12 v72) a + S80x91.size a ≤ S20000x91.size a)
theorem k0_off12_inb : ∀ (v72 : BitVec 32) (k0_hw1 : k0_chk1 v72), ∀ a, (k0_off12 v72) a + S80x91.size a ≤ S20000x91.size a := fun v72 k0_hw1 => k0_hw1

def k0_off13 (i : grid0.Coords) : Fin 3 → Nat :=
  let arg0 : BitVec 32 := BitVec.ofNat 32 (i 0).val
  let c2_i32 : BitVec 32 := 2#32
  let v0 : BitVec 32 := Scalar.remsi arg0 c2_i32
  let c0_i32_75 : BitVec 32 := 0#32
  let c0_i32_76 : BitVec 32 := 0#32
  ![v0.toNat, 0, 0]
def k0_off14 (v90 : BitVec 32) : Fin 2 → Nat :=
  let c0_i32_51 : BitVec 32 := 0#32
  let v92 : BitVec 1 := Scalar.cmpi .sgt v90 c0_i32_51
  let v93 : BitVec 32 := Scalar.extui v92
  let c0_i32_52 : BitVec 32 := 0#32
  let v94 : BitVec 1 := Scalar.cmpi .slt v90 c0_i32_52
  let v95 : BitVec 32 := Scalar.extui v94
  let v96 : BitVec 32 := Scalar.subi v93 v95
  let c91_i32_50 : BitVec 32 := 91#32
  let c0_i32_53 : BitVec 32 := 0#32
  let v97 : BitVec 1 := Scalar.cmpi .sgt c91_i32_50 c0_i32_53
  let v98 : BitVec 32 := Scalar.extui v97
  let c0_i32_54 : BitVec 32 := 0#32
  let v99 : BitVec 1 := Scalar.cmpi .slt c91_i32_50 c0_i32_54
  let v100 : BitVec 32 := Scalar.extui v99
  let v101 : BitVec 32 := Scalar.subi v98 v100
  let v102 : BitVec 1 := Scalar.cmpi .ne v96 v101
  let v103 : BitVec 32 := Scalar.remsi v90 c91_i32_50
  let c0_i32_55 : BitVec 32 := 0#32
  let v104 : BitVec 1 := Scalar.cmpi .ne v103 c0_i32_55
  let v105 : BitVec 1 := Scalar.andi v102 v104
  let v91 : BitVec 32 := Scalar.divsi v90 c91_i32_50
  let c1_i32_56 : BitVec 32 := 1#32
  let v106 : BitVec 32 := Scalar.subi v91 c1_i32_56
  let v107 : BitVec 32 := Scalar.select v105 v106 v91
  let c0_i32_68 : BitVec 32 := 0#32
  let v151 : BitVec 1 := Scalar.cmpi .sgt v107 c0_i32_68
  let v152 : BitVec 32 := Scalar.extui v151
  let c0_i32_69 : BitVec 32 := 0#32
  let v153 : BitVec 1 := Scalar.cmpi .slt v107 c0_i32_69
  let v154 : BitVec 32 := Scalar.extui v153
  let v155 : BitVec 32 := Scalar.subi v152 v154
  let c8_i32 : BitVec 32 := 8#32
  let c0_i32_70 : BitVec 32 := 0#32
  let v156 : BitVec 1 := Scalar.cmpi .sgt c8_i32 c0_i32_70
  let v157 : BitVec 32 := Scalar.extui v156
  let c0_i32_71 : BitVec 32 := 0#32
  let v158 : BitVec 1 := Scalar.cmpi .slt c8_i32 c0_i32_71
  let v159 : BitVec 32 := Scalar.extui v158
  let v160 : BitVec 32 := Scalar.subi v157 v159
  let v161 : BitVec 1 := Scalar.cmpi .ne v155 v160
  let v162 : BitVec 32 := Scalar.remsi v107 c8_i32
  let c0_i32_72 : BitVec 32 := 0#32
  let v163 : BitVec 1 := Scalar.cmpi .ne v162 c0_i32_72
  let v164 : BitVec 1 := Scalar.andi v161 v163
  let v150 : BitVec 32 := Scalar.divsi v107 c8_i32
  let c1_i32_73 : BitVec 32 := 1#32
  let v165 : BitVec 32 := Scalar.subi v150 c1_i32_73
  let v166 : BitVec 32 := Scalar.select v164 v165 v150
  let c8_i32_74 : BitVec 32 := 8#32
  let v167 : BitVec 32 := Scalar.muli v166 c8_i32_74
  let v170 : Index := Scalar.indexCast v167
  let c0_77 : Index := 0#32
  ![v170.toNat, 0]

def k0_off15 (i : grid0.Coords) : Fin 3 → Nat :=
  let arg0 : BitVec 32 := BitVec.ofNat 32 (i 0).val
  let c2_i32 : BitVec 32 := 2#32
  let v0 : BitVec 32 := Scalar.remsi arg0 c2_i32
  let c0_i32_79 : BitVec 32 := 0#32
  let c0_i32_80 : BitVec 32 := 0#32
  ![v0.toNat, 0, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_97 : BitVec 32 := 0#32
  let c0_i32_98 : BitVec 32 := 0#32
  ![v0.toNat, 0, 0]
def k0_off17 (v90 : BitVec 32) : Fin 2 → Nat :=
  let c0_i32_51 : BitVec 32 := 0#32
  let v92 : BitVec 1 := Scalar.cmpi .sgt v90 c0_i32_51
  let v93 : BitVec 32 := Scalar.extui v92
  let c0_i32_52 : BitVec 32 := 0#32
  let v94 : BitVec 1 := Scalar.cmpi .slt v90 c0_i32_52
  let v95 : BitVec 32 := Scalar.extui v94
  let v96 : BitVec 32 := Scalar.subi v93 v95
  let c91_i32_50 : BitVec 32 := 91#32
  let c0_i32_53 : BitVec 32 := 0#32
  let v97 : BitVec 1 := Scalar.cmpi .sgt c91_i32_50 c0_i32_53
  let v98 : BitVec 32 := Scalar.extui v97
  let c0_i32_54 : BitVec 32 := 0#32
  let v99 : BitVec 1 := Scalar.cmpi .slt c91_i32_50 c0_i32_54
  let v100 : BitVec 32 := Scalar.extui v99
  let v101 : BitVec 32 := Scalar.subi v98 v100
  let v102 : BitVec 1 := Scalar.cmpi .ne v96 v101
  let v103 : BitVec 32 := Scalar.remsi v90 c91_i32_50
  let c0_i32_55 : BitVec 32 := 0#32
  let v104 : BitVec 1 := Scalar.cmpi .ne v103 c0_i32_55
  let v105 : BitVec 1 := Scalar.andi v102 v104
  let v91 : BitVec 32 := Scalar.divsi v90 c91_i32_50
  let c1_i32_56 : BitVec 32 := 1#32
  let v106 : BitVec 32 := Scalar.subi v91 c1_i32_56
  let v107 : BitVec 32 := Scalar.select v105 v106 v91
  let c0_i32_82 : BitVec 32 := 0#32
  let v187 : BitVec 1 := Scalar.cmpi .sgt v107 c0_i32_82
  let v188 : BitVec 32 := Scalar.extui v187
  let c0_i32_83 : BitVec 32 := 0#32
  let v189 : BitVec 1 := Scalar.cmpi .slt v107 c0_i32_83
  let v190 : BitVec 32 := Scalar.extui v189
  let v191 : BitVec 32 := Scalar.subi v188 v190
  let c32_i32 : BitVec 32 := 32#32
  let c0_i32_84 : BitVec 32 := 0#32
  let v192 : BitVec 1 := Scalar.cmpi .sgt c32_i32 c0_i32_84
  let v193 : BitVec 32 := Scalar.extui v192
  let c0_i32_85 : BitVec 32 := 0#32
  let v194 : BitVec 1 := Scalar.cmpi .slt c32_i32 c0_i32_85
  let v195 : BitVec 32 := Scalar.extui v194
  let v196 : BitVec 32 := Scalar.subi v193 v195
  let v197 : BitVec 1 := Scalar.cmpi .ne v191 v196
  let v198 : BitVec 32 := Scalar.remsi v107 c32_i32
  let c0_i32_86 : BitVec 32 := 0#32
  let v199 : BitVec 1 := Scalar.cmpi .ne v198 c0_i32_86
  let v200 : BitVec 1 := Scalar.andi v197 v199
  let v186 : BitVec 32 := Scalar.divsi v107 c32_i32
  let c1_i32_87 : BitVec 32 := 1#32
  let v201 : BitVec 32 := Scalar.subi v186 c1_i32_87
  let v202 : BitVec 32 := Scalar.select v200 v201 v186
  let c0_i32_90 : BitVec 32 := 0#32
  let v207 : BitVec 1 := Scalar.cmpi .sgt v202 c0_i32_90
  let v208 : BitVec 32 := Scalar.extui v207
  let c0_i32_91 : BitVec 32 := 0#32
  let v209 : BitVec 1 := Scalar.cmpi .slt v202 c0_i32_91
  let v210 : BitVec 32 := Scalar.extui v209
  let v211 : BitVec 32 := Scalar.subi v208 v210
  let c8_i32_89 : BitVec 32 := 8#32
  let c0_i32_92 : BitVec 32 := 0#32
  let v212 : BitVec 1 := Scalar.cmpi .sgt c8_i32_89 c0_i32_92
  let v213 : BitVec 32 := Scalar.extui v212
  let c0_i32_93 : BitVec 32 := 0#32
  let v214 : BitVec 1 := Scalar.cmpi .slt c8_i32_89 c0_i32_93
  let v215 : BitVec 32 := Scalar.extui v214
  let v216 : BitVec 32 := Scalar.subi v213 v215
  let v217 : BitVec 1 := Scalar.cmpi .ne v211 v216
  let v218 : BitVec 32 := Scalar.remsi v202 c8_i32_89
  let c0_i32_94 : BitVec 32 := 0#32
  let v219 : BitVec 1 := Scalar.cmpi .ne v218 c0_i32_94
  let v220 : BitVec 1 := Scalar.andi v217 v219
  let v206 : BitVec 32 := Scalar.divsi v202 c8_i32_89
  let c1_i32_95 : BitVec 32 := 1#32
  let v221 : BitVec 32 := Scalar.subi v206 c1_i32_95
  let v222 : BitVec 32 := Scalar.select v220 v221 v206
  let c8_i32_96 : BitVec 32 := 8#32
  let v223 : BitVec 32 := Scalar.muli v222 c8_i32_96
  let v226 : Index := Scalar.indexCast v223
  let c0_99 : Index := 0#32
  ![v226.toNat, 0]

def k0_chk2 (v90 : BitVec 32) : Prop :=
  (∀ a, (k0_off14 v90) a + S8x91.size a ≤ S20000x91.size a) ∧
  (∀ a, (k0_off17 v90) a + S8x128.size a ≤ S625x128.size a)
theorem k0_off14_inb : ∀ (v90 : BitVec 32) (k0_hw2 : k0_chk2 v90), ∀ a, (k0_off14 v90) a + S8x91.size a ≤ S20000x91.size a := fun v90 k0_hw2 => k0_hw2.1
theorem k0_off17_inb : ∀ (v90 : BitVec 32) (k0_hw2 : k0_chk2 v90), ∀ a, (k0_off17 v90) a + S8x128.size a ≤ S625x128.size a := fun v90 k0_hw2 => k0_hw2.2

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .smem S1x1x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x20000x91 : Shape := ⟨3, ![16, 20000, 91]⟩
abbrev S16x20000x4 : Shape := ⟨3, ![16, 20000, 4]⟩
abbrev S16x20000x1 : Shape := ⟨3, ![16, 20000, 1]⟩
abbrev S16x2 : Shape := ⟨2, ![16, 2]⟩
abbrev S_ : Shape := ⟨0, ![]⟩
abbrev S16x1820000 : Shape := ⟨2, ![16, 1820000]⟩
abbrev S16x100 : Shape := ⟨2, ![16, 100]⟩
abbrev S16x100x1 : Shape := ⟨3, ![16, 100, 1]⟩
abbrev S16x100x4 : Shape := ⟨3, ![16, 100, 4]⟩
abbrev S16x100x4x1 : Shape := ⟨4, ![16, 100, 4, 1]⟩
abbrev S1 : Shape := ⟨1, ![1]⟩
abbrev S1x1x1x1 : Shape := ⟨4, ![1, 1, 1, 1]⟩
abbrev S16x1 : Shape := ⟨2, ![16, 1]⟩
abbrev S16 : Shape := ⟨1, ![16]⟩
abbrev S16x4 : Shape := ⟨2, ![16, 4]⟩
abbrev S16x1x4 : Shape := ⟨3, ![16, 1, 4]⟩

abbrev nBuf : Space → Nat
  | .hbm => 114
  | .vmem => 0
  | .smem => 0
  | _ => 0

abbrev bufTy : (tb : Table) → Fin (tcTables nBuf tb) → BufTy
  | .hbm, ⟨0, _⟩ => ⟨S16x20000x91, .f32⟩
  | .hbm, ⟨1, _⟩ => ⟨S16x20000x4, .f32⟩
  | .hbm, ⟨2, _⟩ => ⟨S16x20000x1, .f32⟩
  | .hbm, ⟨3, _⟩ => ⟨S16x2, .i32⟩
  | .hbm, ⟨4, _⟩ => ⟨S16x20000x91, .f32⟩
  | .hbm, ⟨5, _⟩ => ⟨S16x20000x91, .f32⟩
  | .hbm, ⟨6, _⟩ => ⟨S_, .f32⟩
  | .hbm, ⟨7, _⟩ => ⟨S16x20000x91, .f32⟩
  | .hbm, ⟨8, _⟩ => ⟨S16x20000x91, .f32⟩
  | .hbm, ⟨9, _⟩ => ⟨S_, .f32⟩
  | .hbm, ⟨10, _⟩ => ⟨S16x20000x91, .f32⟩
  | .hbm, ⟨11, _⟩ => ⟨S16x20000x91, .f32⟩
  | .hbm, ⟨12, _⟩ => ⟨S16x1820000, .f32⟩
  | .hbm, ⟨13, _⟩ => ⟨S16x100, .f32⟩
  | .hbm, ⟨14, _⟩ => ⟨S16x100, .i32⟩
  | .hbm, ⟨15, _⟩ => ⟨S_, .i32⟩
  | .hbm, ⟨16, _⟩ => ⟨S_, .i32⟩
  | .hbm, ⟨17, _⟩ => ⟨S16x100, .i32⟩
  | .hbm, ⟨18, _⟩ => ⟨S16x100, .i32⟩
  | .hbm, ⟨19, _⟩ => ⟨S16x100, .i32⟩
  | .hbm, ⟨20, _⟩ => ⟨S_, .i32⟩
  | .hbm, ⟨21, _⟩ => ⟨S16x100, .i32⟩
  | .hbm, ⟨22, _⟩ => ⟨S16x100, .i1⟩
  | .hbm, ⟨23, _⟩ => ⟨S16x100, .i32⟩
  | .hbm, ⟨24, _⟩ => ⟨S16x100, .i32⟩
  | .hbm, ⟨25, _⟩ => ⟨S_, .i32⟩
  | .hbm, ⟨26, _⟩ => ⟨S16x100, .i32⟩
  | .hbm, ⟨27, _⟩ => ⟨S16x100, .i1⟩
  | .hbm, ⟨28, _⟩ => ⟨S16x100, .i1⟩
  | .hbm, ⟨29, _⟩ => ⟨S_, .i32⟩
  | .hbm, ⟨30, _⟩ => ⟨S16x100, .i32⟩
  | .hbm, ⟨31, _⟩ => ⟨S16x100, .i32⟩
  | .hbm, ⟨32, _⟩ => ⟨S16x100, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S16x100, .i32⟩
  | .hbm, ⟨40, _⟩ => ⟨S16x100, .i32⟩
  | .hbm, ⟨41, _⟩ => ⟨S_, .i32⟩
  | .hbm, ⟨42, _⟩ => ⟨S16x100, .i32⟩
  | .hbm, ⟨43, _⟩ => ⟨S16x100, .i1⟩
  | .hbm, ⟨44, _⟩ => ⟨S_, .i32⟩
  | .hbm, ⟨45, _⟩ => ⟨S16x100, .i32⟩
  | .hbm, ⟨46, _⟩ => ⟨S16x100, .i1⟩
  | .hbm, ⟨47, _⟩ => ⟨S_, .i32⟩
  | .hbm, ⟨48, _⟩ => ⟨S_, .i1⟩
  | .hbm, ⟨49, _⟩ => ⟨S16x100, .i1⟩
  | .hbm, ⟨50, _⟩ => ⟨S16x100, .i1⟩
  | .hbm, ⟨51, _⟩ => ⟨S16x100, .i1⟩
  | .hbm, ⟨52, _⟩ => ⟨S16x100, .i32⟩
  | .hbm, ⟨53, _⟩ => ⟨S16x100, .i32⟩
  | .hbm, ⟨54, _⟩ => ⟨S16x100, .i32⟩
  | .hbm, ⟨55, _⟩ => ⟨S16x20000x1, .f32⟩
  | .hbm, ⟨56, _⟩ => ⟨S16x20000x1, .f32⟩
  | .hbm, ⟨57, _⟩ => ⟨S16x20000x1, .f32⟩
  | .hbm, ⟨58, _⟩ => ⟨S16x20000x1, .f32⟩
  | .hbm, ⟨59, _⟩ => ⟨S_, .f32⟩
  | .hbm, ⟨60, _⟩ => ⟨S16x20000x1, .f32⟩
  | .hbm, ⟨61, _⟩ => ⟨S16x20000x1, .f32⟩
  | .hbm, ⟨62, _⟩ => ⟨S16x20000x1, .f32⟩
  | .hbm, ⟨63, _⟩ => ⟨S_, .f32⟩
  | .hbm, ⟨64, _⟩ => ⟨S16x20000x1, .f32⟩
  | .hbm, ⟨65, _⟩ => ⟨S16x20000x1, .f32⟩
  | .hbm, ⟨66, _⟩ => ⟨S16x20000x1, .f32⟩
  | .hbm, ⟨67, _⟩ => ⟨S_, .f32⟩
  | .hbm, ⟨68, _⟩ => ⟨S16x20000x1, .f32⟩
  | .hbm, ⟨69, _⟩ => ⟨S16x20000x1, .f32⟩
  | .hbm, ⟨70, _⟩ => ⟨S16x20000x1, .f32⟩
  | .hbm, ⟨71, _⟩ => ⟨S_, .f32⟩
  | .hbm, ⟨72, _⟩ => ⟨S16x20000x1, .f32⟩
  | .hbm, ⟨73, _⟩ => ⟨S16x20000x1, .f32⟩
  | .hbm, ⟨74, _⟩ => ⟨S16x20000x1, .f32⟩
  | .hbm, ⟨75, _⟩ => ⟨S16x20000x4, .f32⟩
  | .hbm, ⟨76, _⟩ => ⟨S16x100x1, .i32⟩
  | .hbm, ⟨77, _⟩ => ⟨S16x100x4, .i32⟩
  | .hbm, ⟨78, _⟩ => ⟨S_, .i32⟩
  | .hbm, ⟨79, _⟩ => ⟨S16x100x4, .i32⟩
  | .hbm, ⟨80, _⟩ => ⟨S16x100x4, .i1⟩
  | .hbm, ⟨81, _⟩ => ⟨S_, .i32⟩
  | .hbm, ⟨82, _⟩ => ⟨S16x100x4, .i32⟩
  | .hbm, ⟨83, _⟩ => ⟨S16x100x4, .i32⟩
  | .hbm, ⟨84, _⟩ => ⟨S16x100x4, .i32⟩
  | .hbm, ⟨85, _⟩ => ⟨S16x100x4x1, .i32⟩
  | .hbm, ⟨86, _⟩ => ⟨S1, .i32⟩
  | .hbm, ⟨87, _⟩ => ⟨S_, .i32⟩
  | .hbm, ⟨88, _⟩ => ⟨S16x100x4x1, .i32⟩
  | .hbm, ⟨89, _⟩ => ⟨S16x100x4x1, .i1⟩
  | .hbm, ⟨90, _⟩ => ⟨S1x1x1x1, .i32⟩
  | .hbm, ⟨91, _⟩ => ⟨S16x100x4x1, .i32⟩
  | .hbm, ⟨92, _⟩ => ⟨S16x100x4x1, .i1⟩
  | .hbm, ⟨93, _⟩ => ⟨S16x100x4x1, .i1⟩
  | .hbm, ⟨94, _⟩ => ⟨S_, .i1⟩
  | .hbm, ⟨95, _⟩ => ⟨S16x100x4, .i1⟩
  | .hbm, ⟨96, _⟩ => ⟨S16x100x4, .f32⟩
  | .hbm, ⟨97, _⟩ => ⟨S_, .f32⟩
  | .hbm, ⟨98, _⟩ => ⟨S16x100x4, .f32⟩
  | .hbm, ⟨99, _⟩ => ⟨S16x100x4, .f32⟩
  | .hbm, ⟨100, _⟩ => ⟨S16x1, .i32⟩
  | .hbm, ⟨101, _⟩ => ⟨S16, .i32⟩
  | .hbm, ⟨102, _⟩ => ⟨S16, .f32⟩
  | .hbm, ⟨103, _⟩ => ⟨S16x1, .i32⟩
  | .hbm, ⟨104, _⟩ => ⟨S16, .i32⟩
  | .hbm, ⟨105, _⟩ => ⟨S16, .f32⟩
  | .hbm, ⟨106, _⟩ => ⟨S16x1, .f32⟩
  | .hbm, ⟨107, _⟩ => ⟨S16x1, .f32⟩
  | .hbm, ⟨108, _⟩ => ⟨S16x1, .f32⟩
  | .hbm, ⟨109, _⟩ => ⟨S16x1, .f32⟩
  | .hbm, ⟨110, _⟩ => ⟨S16x4, .f32⟩
  | .hbm, ⟨111, _⟩ => ⟨S16x1x4, .f32⟩
  | .hbm, ⟨112, _⟩ => ⟨S16x100x4, .f32⟩
  | .hbm, ⟨113, _⟩ => ⟨S16x100x4, .f32⟩
  | _, _ => ⟨S16x20000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_cst_2 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_3 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_cst_4 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_5 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_cst : Ref sig .tc := ⟨.hbm, 97, rfl⟩
abbrev main_call2_v14 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩

abbrev nD : Nat := 1
abbrev τ : Topo := Topo.v7x

variable {F : FTy → Type} [FloatOps F]
-- ==== Proof.Ring.lean ====
/-
  The two double buffers of the kernel. The logits (`main_arg0`, an image's 20000 × 91 block at a time) stream through the
  two slots of the first scratch buffer, the boxes (`main_v0`, an image's 625 × 128 block at a time) through the two slots of
  the second; each has ONE completion semaphore, and one block is in flight between two grid points. Here are the
  slots, the blocks, the flights, what is held between two points, and the canonical names of the memrefs that the body
  spells with its grid coordinate.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance : NeZero grid0.N := ⟨by rw [N_0]; decide⟩

/-! ## The operands, the slots and the blocks -/

abbrev scL : Memref sig .tc .vmem S2x20000x91 .f32 := Memref.whole cc0_scratch0
abbrev scB : Memref sig .tc .vmem S2x625x128 .f32 := Memref.whole cc0_scratch1
abbrev hbL : Memref sig .tc .hbm S16x20000x91 .f32 := Memref.whole main_arg0
abbrev hbB : Memref sig .tc .hbm S16x625x128 .f32 := Memref.whole main_v0

/-- The contents of a memref's buffer on core `c`. -/
abbrev BufOf (c : Dev nD) {sp : Space} {S : Shape} {e : EltTy} (M : Memref sig .tc sp S e) : Type := Buf (Elt F) (M.view.loc (c : Thread nD τ))
/-- A memref's buffer on core `c`, whole at contents `f`. -/
abbrev heldAt (c : Dev nD) {sp : Space} {S : Shape} {e : EltTy} (M : Memref sig .tc sp S e) (f : BufOf (F := F) c M) : sProp 𝕄 :=
  M.view.loc (c : Thread nD τ) ↦{fullShare} f

theorem inb_slotL (s : Fin 2) : ∀ a, (![s.val, 0, 0] : Fin 3 → Nat) a + S1x20000x91.size a ≤ S2x20000x91.size a := by
  have := s.isLt; intro a; fin_cases a <;> simp <;> omega
theorem inb_slotB (s : Fin 2) : ∀ a, (![s.val, 0, 0] : Fin 3 → Nat) a + S1x625x128.size a ≤ S2x625x128.size a := by
  have := s.isLt; intro a; fin_cases a <;> simp <;> omega
theorem inb_blkL (b : Fin 16) : ∀ a, (![b.val, 0, 0] : Fin 3 → Nat) a + S1x20000x91.size a ≤ S16x20000x91.size a := by
  have := b.isLt; intro a; fin_cases a <;> simp <;> omega
theorem inb_blkB (b : Fin 16) : ∀ a, (![b.val, 0, 0] : Fin 3 → Nat) a + S1x625x128.size a ≤ S16x625x128.size a := by
  have := b.isLt; intro a; fin_cases a <;> simp <;> omega

/-- Slot `s` of each scratch buffer and image `b`'s block of each operand, as the body spells them. -/
def slotL (s : Fin 2) : Memref sig .tc .vmem S20000x91 .f32 :=
  (scL.slice (Rect.unit (s := S2x20000x91) ![s.val, 0, 0] S1x20000x91.size (inb_slotL s)) (fun _ => rfl)).squeeze S20000x91 squeezes_S1x20000x91_S20000x91
def slotB (s : Fin 2) : Memref sig .tc .vmem S625x128 .f32 :=
  (scB.slice (Rect.unit (s := S2x625x128) ![s.val, 0, 0] S1x625x128.size (inb_slotB s)) (fun _ => rfl)).squeeze S625x128 squeezes_S1x625x128_S625x128
def blkL (b : Fin 16) : Memref sig .tc .hbm S20000x91 .f32 :=
  (hbL.slice (Rect.unit (s := S16x20000x91) ![b.val, 0, 0] S1x20000x91.size (inb_blkL b)) (fun _ => rfl)).squeeze S20000x91 squeezes_S1x20000x91_S20000x91
def blkB (b : Fin 16) : Memref sig .tc .hbm S625x128 .f32 :=
  (hbB.slice (Rect.unit (s := S16x625x128) ![b.val, 0, 0] S1x625x128.size (inb_blkB b)) (fun _ => rfl)).squeeze S625x128 squeezes_S1x625x128_S625x128

/-- The two completion semaphores. -/
abbrev cellL : SemLoc sig := SemLoc.dma cc0_scratch2.sem
abbrev cellB : SemLoc sig := SemLoc.dma cc0_scratch3.sem
theorem cellL_eq : cellL = SemLoc.dma 8 := by decide
theorem cellB_eq : cellB = SemLoc.dma 9 := by decide

/-! ## The pieces held -/

/-- Each slot's transfers borrow from a read-share copy of the operand of its own. -/
abbrev half (s : Fin 2) : PosShare TreeShare := if s.val = 0 then fullShare.left else fullShare.right

section Pieces
variable (c : Dev nD) (X : BufOf (F := F) c hbL) (B : BufOf (F := F) c hbB)

abbrev zeroL : sProp 𝕄 := semVal ((c : Thread nD τ), cellL) 0
abbrev zeroB : sProp 𝕄 := semVal ((c : Thread nD τ), cellB) 0
abbrev inL (s : Fin 2) (f : BufOf (F := F) c (slotL s)) : sProp 𝕄 := (slotL s).view.loc (c : Thread nD τ) ↦[(slotL s).view.set]{fullShare} f
abbrev inB (s : Fin 2) (f : BufOf (F := F) c (slotB s)) : sProp 𝕄 := (slotB s).view.loc (c : Thread nD τ) ↦[(slotB s).view.set]{fullShare} f
abbrev lentL (s : Fin 2) (b : Fin 16) : sProp 𝕄 := (blkL b).view.loc (c : Thread nD τ) ↦[(blkL b).view.set]{half s} X
abbrev lentB (s : Fin 2) (b : Fin 16) : sProp 𝕄 := (blkB b).view.loc (c : Thread nD τ) ↦[(blkB b).view.set]{half s} B
/-- What is left of a slot's copy of the operand while a block of it is lent. -/
def restL (s : Fin 2) (b : Fin 16) : sProp 𝕄 := ((c : Thread nD τ).loc main_arg0) ↦[Finset.univ \ (blkL b).view.set]{half s} X
def restB (s : Fin 2) (b : Fin 16) : sProp 𝕄 := ((c : Thread nD τ).loc main_v0) ↦[Finset.univ \ (blkB b).view.set]{half s} B
abbrev copyL (s : Fin 2) : sProp 𝕄 := ((c : Thread nD τ).loc main_arg0) ↦[Finset.univ]{half s} X
abbrev copyB (s : Fin 2) : sProp 𝕄 := ((c : Thread nD τ).loc main_v0) ↦[Finset.univ]{half s} B
/-- A slot once block `b` has landed over `f`. -/
abbrev landedL (s : Fin 2) (b : Fin 16) (f : BufOf (F := F) c (slotL s)) : BufOf (F := F) c (slotL s) :=
  (slotL s).view.writes (Elt F) f [⟨Rect.whole S20000x91, (blkL b).view.read (Elt F) X⟩]
abbrev landedB (s : Fin 2) (b : Fin 16) (f : BufOf (F := F) c (slotB s)) : BufOf (F := F) c (slotB s) :=
  (slotB s).view.writes (Elt F) f [⟨Rect.whole S625x128, (blkB b).view.read (Elt F) B⟩]
abbrev flyL (s : Fin 2) (b : Fin 16) (f : BufOf (F := F) c (slotL s)) : sProp 𝕄 :=
  Transfers.Flight countersEmb (c : Thread nD τ) cellL default ((slotL s).view.amount cellL) iprop(inL c s (landedL c X s b f) ∗ lentL c X s b)
abbrev flyB (s : Fin 2) (b : Fin 16) (f : BufOf (F := F) c (slotB s)) : sProp 𝕄 :=
  Transfers.Flight countersEmb (c : Thread nD τ) cellB default ((slotB s).view.amount cellB) iprop(inB c s (landedB c B s b f) ∗ lentB c B s b)

/-- Nothing in flight: both slots free, the semaphore at zero, both copies of the operand whole. -/
def freeL : sProp 𝕄 := iprop(zeroL c ∗ ((∃ f, inL (F := F) c 0 f) ∗ copyL c X 0) ∗ (∃ f, inL (F := F) c 1 f) ∗ copyL c X 1)
def freeB : sProp 𝕄 := iprop(zeroB c ∗ ((∃ f, inB (F := F) c 0 f) ∗ copyB c B 0) ∗ (∃ f, inB (F := F) c 1 f) ∗ copyB c B 1)
/-- Block `b` in flight into slot `s`, the other slot `s'` free with its copy of the operand. -/
def busyL (s s' : Fin 2) (b : Fin 16) : sProp 𝕄 :=
  iprop((∃ f, flyL c X s b f) ∗ restL c X s b ∗ (∃ f, inL (F := F) c s' f) ∗ copyL c X s')
def busyB (s s' : Fin 2) (b : Fin 16) : sProp 𝕄 :=
  iprop((∃ f, flyB c B s b f) ∗ restB c B s b ∗ (∃ f, inB (F := F) c s' f) ∗ copyB c B s')

/-- The pieces of both double buffers before grid point `k`. -/
def atPoint (k : ℕ) : sProp 𝕄 :=
  if k = 0 ∨ k = 16 then iprop(freeL c X ∗ freeB c B)
  else iprop(busyL c X (Ring.sl 2 k) (Ring.sl 2 (k + 1)) (Ring.bk 16 k) ∗ busyB c B (Ring.sl 2 k) (Ring.sl 2 (k + 1)) (Ring.bk 16 k))

/-! ## Splitting and joining -/

theorem copyL_split (s : Fin 2) (b : Fin 16) : copyL (F := F) c X s ⊣⊢ iprop(lentL c X s b ∗ restL c X s b) := by
  unfold restL; exact pointsTo_split_subset (Finset.subset_univ _)
theorem copyB_split (s : Fin 2) (b : Fin 16) : copyB (F := F) c B s ⊣⊢ iprop(lentB c B s b ∗ restB c B s b) := by
  unfold restB; exact pointsTo_split_subset (Finset.subset_univ _)
theorem copiesL : (heldAt c hbL X : sProp 𝕄) ⊣⊢ iprop(copyL c X 0 ∗ copyL c X 1) := pointsTo_share (PosShare.mem_left_op_right fullShare)
theorem copiesB : (heldAt c hbB B : sProp 𝕄) ⊣⊢ iprop(copyB c B 0 ∗ copyB c B 1) := pointsTo_share (PosShare.mem_left_op_right fullShare)

abbrev setL (s : Fin 2) : Finset S2x20000x91.Idx := (Rect.unit (s := S2x20000x91) ![s.val, 0, 0] S1x20000x91.size (inb_slotL s)).set
abbrev setB (s : Fin 2) : Finset S2x625x128.Idx := (Rect.unit (s := S2x625x128) ![s.val, 0, 0] S1x625x128.size (inb_slotB s)).set
theorem setL_eq (s : Fin 2) : (slotL s).view.set = setL s := by
  simp only [slotL, Memref.view_squeeze, View.set_reshape]; exact View.set_slice_whole _ _
theorem setB_eq (s : Fin 2) : (slotB s).view.set = setB s := by
  simp only [slotB, Memref.view_squeeze, View.set_reshape]; exact View.set_slice_whole _ _
theorem setL_disjoint (s s' : Fin 2) (h : s ≠ s') : Disjoint (setL s) (setL s') :=
  Ring.lead_disjoint (s := S2x20000x91) (0 : Fin 3) 1 (fun s : Fin 2 => (![s.val, 0, 0] : Fin 3 → Nat)) S1x20000x91.size inb_slotL (fun s => by simp) rfl s s' h
theorem setB_disjoint (s s' : Fin 2) (h : s ≠ s') : Disjoint (setB s) (setB s') :=
  Ring.lead_disjoint (s := S2x625x128) (0 : Fin 3) 1 (fun s : Fin 2 => (![s.val, 0, 0] : Fin 3 → Nat)) S1x625x128.size inb_slotB (fun s => by simp) rfl s s' h
theorem setL_cover : Finset.univ.biUnion setL = Finset.univ :=
  Ring.lead_cover (s := S2x20000x91) (0 : Fin 3) 1 (fun s : Fin 2 => (![s.val, 0, 0] : Fin 3 → Nat)) S1x20000x91.size inb_slotL (fun s => by simp)
    (fun s a ha => by fin_cases a <;> first | exact absurd rfl ha | rfl) rfl (fun a ha => by fin_cases a <;> first | exact absurd rfl ha | rfl) rfl
theorem setB_cover : Finset.univ.biUnion setB = Finset.univ :=
  Ring.lead_cover (s := S2x625x128) (0 : Fin 3) 1 (fun s : Fin 2 => (![s.val, 0, 0] : Fin 3 → Nat)) S1x625x128.size inb_slotB (fun s => by simp)
    (fun s a ha => by fin_cases a <;> first | exact absurd rfl ha | rfl) rfl (fun a ha => by fin_cases a <;> first | exact absurd rfl ha | rfl) rfl
theorem inL_eq (s : Fin 2) (f) : inL (F := F) c s f = (((c : Thread nD τ).loc cc0_scratch0) ↦[setL s]{fullShare} f : sProp 𝕄) := by
  unfold inL; rw [setL_eq]; rfl
theorem inB_eq (s : Fin 2) (f) : inB (F := F) c s f = (((c : Thread nD τ).loc cc0_scratch1) ↦[setB s]{fullShare} f : sProp 𝕄) := by
  unfold inB; rw [setB_eq]; rfl

set_option maxHeartbeats 1000000 in
theorem slotsL_split : iprop(∃ d, owns (c : Thread nD τ) scL fullShare d) ⊢ (iprop((∃ f, inL (F := F) c 0 f) ∗ ∃ f, inL (F := F) c 1 f) : sProp 𝕄) := by
  simp only [scL, owns_whole]
  exact Ring.slots2_split (U := Pipeline.UD sig nD τ) (ℓ := (c : Thread nD τ).loc cc0_scratch0) (q := fullShare) setL setL_disjoint setL_cover
    (inL c 0) (inL c 1) (inL_eq c 0) (inL_eq c 1)
set_option maxHeartbeats 1000000 in
theorem slotsL_join : (iprop((∃ f, inL (F := F) c 0 f) ∗ ∃ f, inL (F := F) c 1 f) : sProp 𝕄) ⊢ iprop(∃ d, owns (c : Thread nD τ) scL fullShare d) := by
  simp only [scL, owns_whole]
  exact Ring.slots2_join (U := Pipeline.UD sig nD τ) (ℓ := (c : Thread nD τ).loc cc0_scratch0) (q := fullShare) setL setL_disjoint setL_cover
    (inL c 0) (inL c 1) (inL_eq c 0) (inL_eq c 1)
set_option maxHeartbeats 1000000 in
theorem slotsB_split : iprop(∃ d, owns (c : Thread nD τ) scB fullShare d) ⊢ (iprop((∃ f, inB (F := F) c 0 f) ∗ ∃ f, inB (F := F) c 1 f) : sProp 𝕄) := by
  simp only [scB, owns_whole]
  exact Ring.slots2_split (U := Pipeline.UD sig nD τ) (ℓ := (c : Thread nD τ).loc cc0_scratch1) (q := fullShare) setB setB_disjoint setB_cover
    (inB c 0) (inB c 1) (inB_eq c 0) (inB_eq c 1)
set_option maxHeartbeats 1000000 in
theorem slotsB_join : (iprop((∃ f, inB (F := F) c 0 f) ∗ ∃ f, inB (F := F) c 1 f) : sProp 𝕄) ⊢ iprop(∃ d, owns (c : Thread nD τ) scB fullShare d) := by
  simp only [scB, owns_whole]
  exact Ring.slots2_join (U := Pipeline.UD sig nD τ) (ℓ := (c : Thread nD τ).loc cc0_scratch1) (q := fullShare) setB setB_disjoint setB_cover
    (inB c 0) (inB c 1) (inB_eq c 0) (inB_eq c 1)

/-- The scratch buffers whole, the semaphores at zero and the operands whole are the pieces with nothing in flight. -/
theorem free_in : iprop(((∃ d, owns (c : Thread nD τ) scL fullShare d) ∗ (∃ d, owns (c : Thread nD τ) scB fullShare d))
      ∗ (zeroL c ∗ zeroB c) ∗ heldAt c hbL X ∗ heldAt c hbB B) ⊢ (iprop(freeL c X ∗ freeB c B) : sProp 𝕄) := by
  unfold freeL freeB
  iintro ⟨⟨HL, HB⟩, ⟨H8, H9⟩, HX, HY⟩
  ihave HL' := (slotsL_split (F := F) c) $$ HL
  ihave HB' := (slotsB_split (F := F) c) $$ HB
  ihave HX' := (copiesL (F := F) c X).1 $$ HX
  ihave HY' := (copiesB (F := F) c B).1 $$ HY
  icases HL' with ⟨HL0, HL1⟩
  icases HB' with ⟨HB0, HB1⟩
  icases HX' with ⟨HX0, HX1⟩
  icases HY' with ⟨HY0, HY1⟩
  isplitl [H8 HL0 HL1 HX0 HX1]
  · isplitl [H8]; · iexact H8
    isplitl [HL0 HX0]
    · isplitl [HL0]; · iexact HL0
      iexact HX0
    isplitl [HL1]; · iexact HL1
    iexact HX1
  · isplitl [H9]; · iexact H9
    isplitl [HB0 HY0]
    · isplitl [HB0]; · iexact HB0
      iexact HY0
    isplitl [HB1]; · iexact HB1
    iexact HY1
theorem free_out : (iprop(freeL c X ∗ freeB c B) : sProp 𝕄) ⊢ iprop(((∃ d, owns (c : Thread nD τ) scL fullShare d) ∗ (∃ d, owns (c : Thread nD τ) scB fullShare d))
      ∗ (zeroL c ∗ zeroB c) ∗ heldAt c hbL X ∗ heldAt c hbB B) := by
  unfold freeL freeB
  iintro ⟨⟨H8, ⟨HL0, HX0⟩, HL1, HX1⟩, ⟨H9, ⟨HB0, HY0⟩, HB1, HY1⟩⟩
  isplitl [HL0 HL1 HB0 HB1]
  · isplitl [HL0 HL1]
    · iapply (slotsL_join (F := F) c); isplitl [HL0]; · iexact HL0
      iexact HL1
    · iapply (slotsB_join (F := F) c); isplitl [HB0]; · iexact HB0
      iexact HB1
  isplitl [H8 H9]
  · isplitl [H8]; · iexact H8
    iexact H9
  isplitl [HX0 HX1]
  · iapply (copiesL (F := F) c X).2; isplitl [HX0]; · iexact HX0
    iexact HX1
  · iapply (copiesB (F := F) c B).2; isplitl [HY0]; · iexact HY0
    iexact HY1

end Pieces

/-! ## The branches of the body over the grid -/

abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)
abbrev hasNext (i : grid0.Coords) : Prop := k0_cond2 i = 1#1
theorem hasNext_iff : ∀ t : Fin cfg0.N, hasNext (grid0.coords t) ↔ t.val < 15 :=
  (by decide +kernel : ∀ t : Fin grid0.N, hasNext (grid0.coords t) ↔ t.val < 15)

/-! ## Canonical names -/

section Canon

theorem first_slot : ∀ t : Fin grid0.N, isFirst (grid0.coords t) → (![0, 0, 0] : Fin 3 → Nat) = ![(Ring.sl 2 t.val).val, 0, 0] := by decide +kernel
theorem first_blk : ∀ t : Fin grid0.N, isFirst (grid0.coords t) → (![0, 0, 0] : Fin 3 → Nat) = ![(Ring.bk 16 t.val).val, 0, 0] := by decide +kernel
@[sl_canon] theorem canonL_first (t : Fin grid0.N) (h : isFirst (grid0.coords t)) :
    (scL.slice (Rect.unit (s := S2x20000x91) ![0, 0, 0] S1x20000x91.size inb_S2x20000x91_S1x20000x91_0_0_0) (fun _ => rfl)).squeeze S20000x91 squeezes_S1x20000x91_S20000x91 = slotL (Ring.sl 2 t.val) :=
  congrArg (fun M : Memref sig .tc .vmem S1x20000x91 .f32 => M.squeeze S20000x91 squeezes_S1x20000x91_S20000x91) (Memref.slice_unit_congr _ (first_slot t h) _ _ (fun _ => rfl) (fun _ => rfl))
@[sl_canon] theorem canonB_first (t : Fin grid0.N) (h : isFirst (grid0.coords t)) :
    (scB.slice (Rect.unit (s := S2x625x128) ![0, 0, 0] S1x625x128.size inb_S2x625x128_S1x625x128_0_0_0) (fun _ => rfl)).squeeze S625x128 squeezes_S1x625x128_S625x128 = slotB (Ring.sl 2 t.val) :=
  congrArg (fun M : Memref sig .tc .vmem S1x625x128 .f32 => M.squeeze S625x128 squeezes_S1x625x128_S625x128) (Memref.slice_unit_congr _ (first_slot t h) _ _ (fun _ => rfl) (fun _ => rfl))
@[sl_canon] theorem canonX_first (t : Fin grid0.N) (h : isFirst (grid0.coords t)) :
    (hbL.slice (Rect.unit (s := S16x20000x91) ![0, 0, 0] S1x20000x91.size inb_S16x20000x91_S1x20000x91_0_0_0) (fun _ => rfl)).squeeze S20000x91 squeezes_S1x20000x91_S20000x91 = blkL (Ring.bk 16 t.val) :=
  congrArg (fun M : Memref sig .tc .hbm S1x20000x91 .f32 => M.squeeze S20000x91 squeezes_S1x20000x91_S20000x91) (Memref.slice_unit_congr _ (first_blk t h) _ _ (fun _ => rfl) (fun _ => rfl))
@[sl_canon] theorem canonY_first (t : Fin grid0.N) (h : isFirst (grid0.coords t)) :
    (hbB.slice (Rect.unit (s := S16x625x128) ![0, 0, 0] S1x625x128.size inb_S16x625x128_S1x625x128_0_0_0) (fun _ => rfl)).squeeze S625x128 squeezes_S1x625x128_S625x128 = blkB (Ring.bk 16 t.val) :=
  congrArg (fun M : Memref sig .tc .hbm S1x625x128 .f32 => M.squeeze S625x128 squeezes_S1x625x128_S625x128) (Memref.slice_unit_congr _ (first_blk t h) _ _ (fun _ => rfl) (fun _ => rfl))

theorem here_slot : ∀ t : Fin grid0.N, k0_off1 (grid0.coords t) = ![(Ring.sl 2 t.val).val, 0, 0] := by decide +kernel
theorem here_slot3 : ∀ t : Fin grid0.N, k0_off3 (grid0.coords t) = ![(Ring.sl 2 t.val).val, 0, 0] := by decide +kernel
theorem here_slot9 : ∀ t : Fin grid0.N, k0_off9 (grid0.coords t) = ![(Ring.sl 2 t.val).val, 0, 0] := by decide +kernel
theorem here_slot11 : ∀ t : Fin grid0.N, k0_off11 (grid0.coords t) = ![(Ring.sl 2 t.val).val, 0, 0] := by decide +kernel
theorem here_slot13 : ∀ t : Fin grid0.N, k0_off13 (grid0.coords t) = ![(Ring.sl 2 t.val).val, 0, 0] := by decide +kernel
theorem here_slot15 : ∀ t : Fin grid0.N, k0_off15 (grid0.coords t) = ![(Ring.sl 2 t.val).val, 0, 0] := by decide +kernel
theorem here_slot16 : ∀ t : Fin grid0.N, k0_off16 (grid0.coords t) = ![(Ring.sl 2 t.val).val, 0, 0] := by decide +kernel
theorem here_blk2 : ∀ t : Fin grid0.N, k0_off2 (grid0.coords t) = ![(Ring.bk 16 t.val).val, 0, 0] := by decide +kernel
theorem here_blk4 : ∀ t : Fin grid0.N, k0_off4 (grid0.coords t) = ![(Ring.bk 16 t.val).val, 0, 0] := by decide +kernel
theorem next_slot5 : ∀ t : Fin grid0.N, k0_off5 (grid0.coords t) = ![(Ring.sl 2 (t.val + 1)).val, 0, 0] := by decide +kernel
theorem next_slot7 : ∀ t : Fin grid0.N, k0_off7 (grid0.coords t) = ![(Ring.sl 2 (t.val + 1)).val, 0, 0] := by decide +kernel
theorem next_blk6 : ∀ t : Fin grid0.N, hasNext (grid0.coords t) → k0_off6 (grid0.coords t) = ![(Ring.bk 16 (t.val + 1)).val, 0, 0] := by decide +kernel
theorem next_blk8 : ∀ t : Fin grid0.N, hasNext (grid0.coords t) → k0_off8 (grid0.coords t) = ![(Ring.bk 16 (t.val + 1)).val, 0, 0] := by decide +kernel

/-- A slice of the logits scratch at a slot's offsets, squeezed, is that slot; likewise for the other three memrefs. -/
theorem slotL_of {off : Fin 3 → Nat} {s : Fin 2} (e : off = ![s.val, 0, 0]) (h : ∀ a, off a + S1x20000x91.size a ≤ S2x20000x91.size a) :
    (scL.slice (Rect.unit (s := S2x20000x91) off S1x20000x91.size h) (fun _ => rfl)).squeeze S20000x91 squeezes_S1x20000x91_S20000x91 = slotL s :=
  congrArg (fun M : Memref sig .tc .vmem S1x20000x91 .f32 => M.squeeze S20000x91 squeezes_S1x20000x91_S20000x91) (Memref.slice_unit_congr _ e _ _ (fun _ => rfl) (fun _ => rfl))
theorem slotB_of {off : Fin 3 → Nat} {s : Fin 2} (e : off = ![s.val, 0, 0]) (h : ∀ a, off a + S1x625x128.size a ≤ S2x625x128.size a) :
    (scB.slice (Rect.unit (s := S2x625x128) off S1x625x128.size h) (fun _ => rfl)).squeeze S625x128 squeezes_S1x625x128_S625x128 = slotB s :=
  congrArg (fun M : Memref sig .tc .vmem S1x625x128 .f32 => M.squeeze S625x128 squeezes_S1x625x128_S625x128) (Memref.slice_unit_congr _ e _ _ (fun _ => rfl) (fun _ => rfl))
theorem blkL_of {off : Fin 3 → Nat} {b : Fin 16} (e : off = ![b.val, 0, 0]) (h : ∀ a, off a + S1x20000x91.size a ≤ S16x20000x91.size a) :
    (hbL.slice (Rect.unit (s := S16x20000x91) off S1x20000x91.size h) (fun _ => rfl)).squeeze S20000x91 squeezes_S1x20000x91_S20000x91 = blkL b :=
  congrArg (fun M : Memref sig .tc .hbm S1x20000x91 .f32 => M.squeeze S20000x91 squeezes_S1x20000x91_S20000x91) (Memref.slice_unit_congr _ e _ _ (fun _ => rfl) (fun _ => rfl))
theorem blkB_of {off : Fin 3 → Nat} {b : Fin 16} (e : off = ![b.val, 0, 0]) (h : ∀ a, off a + S1x625x128.size a ≤ S16x625x128.size a) :
    (hbB.slice (Rect.unit (s := S16x625x128) off S1x625x128.size h) (fun _ => rfl)).squeeze S625x128 squeezes_S1x625x128_S625x128 = blkB b :=
  congrArg (fun M : Memref sig .tc .hbm S1x625x128 .f32 => M.squeeze S625x128 squeezes_S1x625x128_S625x128) (Memref.slice_unit_congr _ e _ _ (fun _ => rfl) (fun _ => rfl))

@[sl_canon] theorem canonL_1 (t : Fin grid0.N) : (scL.slice (Rect.unit (s := S2x20000x91) (k0_off1 (grid0.coords t)) S1x20000x91.size (k0_off1_inb (grid0.coords t))) (fun _ => rfl)).squeeze S20000x91 squeezes_S1x20000x91_S20000x91 = slotL (Ring.sl 2 t.val) := slotL_of (here_slot t) _
@[sl_canon] theorem canonL_9 (t : Fin grid0.N) : (scL.slice (Rect.unit (s := S2x20000x91) (k0_off9 (grid0.coords t)) S1x20000x91.size (k0_off9_inb (grid0.coords t))) (fun _ => rfl)).squeeze S20000x91 squeezes_S1x20000x91_S20000x91 = slotL (Ring.sl 2 t.val) := slotL_of (here_slot9 t) _
@[sl_canon] theorem canonL_11 (t : Fin grid0.N) : (scL.slice (Rect.unit (s := S2x20000x91) (k0_off11 (grid0.coords t)) S1x20000x91.size (k0_off11_inb (grid0.coords t))) (fun _ => rfl)).squeeze S20000x91 squeezes_S1x20000x91_S20000x91 = slotL (Ring.sl 2 t.val) := slotL_of (here_slot11 t) _
@[sl_canon] theorem canonL_13 (t : Fin grid0.N) : (scL.slice (Rect.unit (s := S2x20000x91) (k0_off13 (grid0.coords t)) S1x20000x91.size (k0_off13_inb (grid0.coords t))) (fun _ => rfl)).squeeze S20000x91 squeezes_S1x20000x91_S20000x91 = slotL (Ring.sl 2 t.val) := slotL_of (here_slot13 t) _
@[sl_canon] theorem canonL_15 (t : Fin grid0.N) : (scL.slice (Rect.unit (s := S2x20000x91) (k0_off15 (grid0.coords t)) S1x20000x91.size (k0_off15_inb (grid0.coords t))) (fun _ => rfl)).squeeze S20000x91 squeezes_S1x20000x91_S20000x91 = slotL (Ring.sl 2 t.val) := slotL_of (here_slot15 t) _
@[sl_canon] theorem canonL_5 (t : Fin grid0.N) (h : hasNext (grid0.coords t)) : (scL.slice (Rect.unit (s := S2x20000x91) (k0_off5 (grid0.coords t)) S1x20000x91.size (k0_off5_inb (grid0.coords t) h)) (fun _ => rfl)).squeeze S20000x91 squeezes_S1x20000x91_S20000x91 = slotL (Ring.sl 2 (t.val + 1)) := slotL_of (next_slot5 t) _
@[sl_canon] theorem canonB_3 (t : Fin grid0.N) : (scB.slice (Rect.unit (s := S2x625x128) (k0_off3 (grid0.coords t)) S1x625x128.size (k0_off3_inb (grid0.coords t))) (fun _ => rfl)).squeeze S625x128 squeezes_S1x625x128_S625x128 = slotB (Ring.sl 2 t.val) := slotB_of (here_slot3 t) _
@[sl_canon] theorem canonB_16 (t : Fin grid0.N) : (scB.slice (Rect.unit (s := S2x625x128) (k0_off16 (grid0.coords t)) S1x625x128.size (k0_off16_inb (grid0.coords t))) (fun _ => rfl)).squeeze S625x128 squeezes_S1x625x128_S625x128 = slotB (Ring.sl 2 t.val) := slotB_of (here_slot16 t) _
@[sl_canon] theorem canonB_7 (t : Fin grid0.N) (h : hasNext (grid0.coords t)) : (scB.slice (Rect.unit (s := S2x625x128) (k0_off7 (grid0.coords t)) S1x625x128.size (k0_off7_inb (grid0.coords t) h)) (fun _ => rfl)).squeeze S625x128 squeezes_S1x625x128_S625x128 = slotB (Ring.sl 2 (t.val + 1)) := slotB_of (next_slot7 t) _
@[sl_canon] theorem canonX_2 (t : Fin grid0.N) : (hbL.slice (Rect.unit (s := S16x20000x91) (k0_off2 (grid0.coords t)) S1x20000x91.size (k0_off2_inb (grid0.coords t))) (fun _ => rfl)).squeeze S20000x91 squeezes_S1x20000x91_S20000x91 = blkL (Ring.bk 16 t.val) := blkL_of (here_blk2 t) _
@[sl_canon] theorem canonX_6 (t : Fin grid0.N) (h : hasNext (grid0.coords t)) : (hbL.slice (Rect.unit (s := S16x20000x91) (k0_off6 (grid0.coords t)) S1x20000x91.size (k0_off6_inb (grid0.coords t) h)) (fun _ => rfl)).squeeze S20000x91 squeezes_S1x20000x91_S20000x91 = blkL (Ring.bk 16 (t.val + 1)) := blkL_of (next_blk6 t h) _
@[sl_canon] theorem canonY_4 (t : Fin grid0.N) : (hbB.slice (Rect.unit (s := S16x625x128) (k0_off4 (grid0.coords t)) S1x625x128.size (k0_off4_inb (grid0.coords t))) (fun _ => rfl)).squeeze S625x128 squeezes_S1x625x128_S625x128 = blkB (Ring.bk 16 t.val) := blkB_of (here_blk4 t) _
@[sl_canon] theorem canonY_8 (t : Fin grid0.N) (h : hasNext (grid0.coords t)) : (hbB.slice (Rect.unit (s := S16x625x128) (k0_off8 (grid0.coords t)) S1x625x128.size (k0_off8_inb (grid0.coords t) h)) (fun _ => rfl)).squeeze S625x128 squeezes_S1x625x128_S625x128 = blkB (Ring.bk 16 (t.val + 1)) := blkB_of (next_blk8 t h) _

end Canon

end Cert.Proof

end
-- ==== Proof.Steps.lean ====
/-
  What one trip of each of the kernel's two loops does to the contents it works on, as functions of values: the first loop
  turns a slab of 160 rows of logits into scores and takes the two chunk maxima of the slab; the second takes the
  best score left, its place, its label and its box, and strikes it out.
-/
module

public import proofs.«01_k».proof.Proof.Ring

@[expose] public section

set_option maxRecDepth 16384

noncomputable section

namespace Cert.Proof

open Cert.KernelIdeal Cert.KernelIdeal.Gen
open Idealize.ShloMosaic Idealize.ShloMosaic.TcCoe
open Idealize.SL Idealize.SL.Sem

variable {F : FTy → Type} [FloatOps F]

/-- The coordinate vectors the body forms before its loops. -/
abbrev iR : IVec S2x128 32 := iota .tc S2x128 32 [0] iota_S2x128_d0_w32
abbrev iC : IVec S2x128 32 := iota .tc S2x128 32 [1] iota_S2x128_d1_w32
abbrev iK : IVec S1x128 32 := iota .tc S1x128 32 [1] iota_S1x128_d1_w32
abbrev iR80 : IVec S80x91 32 := iota .tc S80x91 32 [0] iota_S80x91_d0_w32
abbrev iC80 : IVec S80x91 32 := iota .tc S80x91 32 [1] iota_S80x91_d1_w32
abbrev iR8 : IVec S8x91 32 := iota .tc S8x91 32 [0] iota_S8x91_d0_w32
abbrev iC8 : IVec S8x91 32 := iota .tc S8x91 32 [1] iota_S8x91_d1_w32
abbrev jR8 : IVec S8x128 32 := iota .tc S8x128 32 [0] iota_S8x128_d0_w32
abbrev jC8 : IVec S8x128 32 := iota .tc S8x128 32 [1] iota_S8x128_d1_w32

/-! ## The first loop -/

/-- The state of the first loop: the block of logits turning into scores, and the chunk maxima. -/
abbrev St1 (F : FTy → Type) [FloatOps F] : Type := Vec F S20000x91 .f32 × FVec F S2x128 .f32

/-- One trip: slab `k` becomes scores, and the maxima of its two chunks are recorded. -/
def trip1 (k : Fin k0_t1_loop.trips) (s : St1 F) : St1 F :=
  (VecWindow.put s.1 (k0_off10 k) S160x91.size (k0_pay23 (VecWindow.window s.1 (k0_off10 k) S160x91.size (k0_off10_inb k))),
   k0_pay24 k s.2 (VecWindow.window s.1 (k0_off10 k) S160x91.size (k0_off10_inb k)))

/-- The state before trip `k` of the first loop. -/
def run1 (X : Vec F S20000x91 .f32) : ℕ → St1 F
  | 0 => (X, k0_pay21)
  | k + 1 => if h : k < k0_t1_loop.trips then trip1 ⟨k, h⟩ (run1 X k) else run1 X k

theorem run1_succ (X : Vec F S20000x91 .f32) (k : Fin k0_t1_loop.trips) : run1 X (k.val + 1) = trip1 k (run1 X k.val) := by
  rw [run1, dif_pos k.isLt]

/-! ## The second loop -/

/-- What the second loop carries: the chunk maxima, the scores and labels found, the four rows of the boxes found. -/
abbrev Acc (F : FTy → Type) [FloatOps F] : Type :=
  FVec F S2x128 .f32 × FVec F S1x128 .f32 × IVec S1x128 32 × FVec F S1x128 .f32 × FVec F S1x128 .f32 × FVec F S1x128 .f32 × FVec F S1x128 .f32
/-- Its state: the scores not struck out, and what it carries. -/
abbrev St2 (F : FTy → Type) [FloatOps F] : Type := Vec F S20000x91 .f32 × Acc F

/-- The chunk holding the best score left. -/
abbrev chunkOf (cm : FVec F S2x128 .f32) : BitVec 32 := extractAt ![0, 0, 0] (k0_pay3 iR iC cm) inpos_S1x1x1_p0_0_0
/-- The place of the best score left, off that chunk. -/
abbrev placeOf (cm : FVec F S2x128 .f32) (ch : Vec F S80x91 .f32) : BitVec 32 := extractAt ![0, 0, 0] (k0_pay5 iR iC iR80 iC80 cm ch) inpos_S1x1x1_p0_0_0
/-- The floor of a word's quotient by 91, as the body computes it. -/
abbrev rowOf (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt (91#32 : BitVec 32) 0#32)) (Scalar.extui (Scalar.cmpi .slt (91#32 : BitVec 32) 0#32))))
    (Scalar.cmpi .ne (Scalar.remsi v 91#32) 0#32)) (Scalar.subi (Scalar.divsi v 91#32) 1#32) (Scalar.divsi v 91#32)
abbrev colOf (v : BitVec 32) : BitVec 32 := Scalar.subi v (Scalar.muli (rowOf v) 91#32)
/-- Four times the remainder of a row number by 32: the lane at which the row's box starts. -/
abbrev laneOf (r : BitVec 32) : BitVec 32 :=
  Scalar.muli (Scalar.subi r (Scalar.muli (Scalar.select (Scalar.andi (Scalar.cmpi .ne (Scalar.subi (Scalar.extui (Scalar.cmpi .sgt r 0#32)) (Scalar.extui (Scalar.cmpi .slt r 0#32)))
      (Scalar.subi (Scalar.extui (Scalar.cmpi .sgt (32#32 : BitVec 32) 0#32)) (Scalar.extui (Scalar.cmpi .slt (32#32 : BitVec 32) 0#32))))
    (Scalar.cmpi .ne (Scalar.remsi r 32#32) 0#32)) (Scalar.subi (Scalar.divsi r 32#32) 1#32) (Scalar.divsi r 32#32)) 32#32)) 4#32
/-- The slab rows the body compares with (its payload 14 at a row). -/
abbrev slabRow (r : BitVec 32) : IVec S8x128 32 := k0_pay14 r 32#32 (Scalar.divsi r 32#32) (Scalar.cmpi .sgt r 0#32)

/-- What a trip carries on, given the chunk number `w`, the chunk's scores `ch`, the place `v`, the rows `sl` around it and
    the slab of boxes `bx`. -/
def carry2 (k : Fin k0_t2_loop.trips) (sh sw : Elt F .f32) (a : Acc F) (w : BitVec 32) (ch : Vec F S80x91 .f32) (v : BitVec 32) (bx : Vec F S8x128 .f32) : Acc F :=
  (k0_pay12 iR a.1 (k0_pay9 ch (k0_pay4 iR iC iR80 iC80 a.1) v) (k0_pay10 iC w) (k0_pay11 w),
   k0_pay7 iK a.2.1 (Scf.iv 0#32 1#32 k) (k0_pay2 a.1),
   k0_pay8 iK a.2.2.1 (Scf.iv 0#32 1#32 k) v 91#32 (Scalar.divsi v 91#32) (Scalar.subi (Scalar.extui (Scalar.cmpi .sgt v 0#32)) (Scalar.extui (Scalar.cmpi .slt v 0#32))) (Scalar.extui (Scalar.cmpi .sgt (91#32 : BitVec 32) 0#32)) 0#32,
   k0_pay20 sw jR8 jC8 a.2.2.2.1 (k0_pay6 iK (Scf.iv 0#32 1#32 k)) (laneOf (rowOf v)) bx (slabRow (rowOf v)),
   k0_pay27 sh a.2.2.2.2.1 (k0_pay6 iK (Scf.iv 0#32 1#32 k)) (k0_pay17 jR8 jC8 (laneOf (rowOf v)) bx (slabRow (rowOf v))) (k0_pay19 jR8 jC8 (laneOf (rowOf v)) bx (slabRow (rowOf v))) (Scalar.ofBits .f32 0x3F000000#32),
   k0_pay28 sw a.2.2.2.2.2.1 (k0_pay6 iK (Scf.iv 0#32 1#32 k)) (k0_pay16 jR8 jC8 (laneOf (rowOf v)) bx (slabRow (rowOf v))) (k0_pay18 jR8 jC8 (laneOf (rowOf v)) bx (slabRow (rowOf v))),
   k0_pay29 sh a.2.2.2.2.2.2 (k0_pay6 iK (Scf.iv 0#32 1#32 k)) (k0_pay17 jR8 jC8 (laneOf (rowOf v)) bx (slabRow (rowOf v))) (k0_pay19 jR8 jC8 (laneOf (rowOf v)) bx (slabRow (rowOf v))))

/-- The chunk's scores, and the place found, of a state whose chunk number is in range. -/
abbrev chunkAt (s : St2 F) (h1 : k0_chk1 (chunkOf s.2.1)) : Vec F S80x91 .f32 :=
  VecWindow.window s.1 (k0_off12 (chunkOf s.2.1)) S80x91.size (k0_off12_inb _ h1)
abbrev placeAt (s : St2 F) (h1 : k0_chk1 (chunkOf s.2.1)) : BitVec 32 := placeOf s.2.1 (chunkAt s h1)

/-- One trip under its two range conditions. -/
def trip2At (B : Vec F S625x128 .f32) (sh sw : Elt F .f32) (k : Fin k0_t2_loop.trips) (s : St2 F)
    (h1 : k0_chk1 (chunkOf s.2.1)) (h2 : k0_chk2 (placeAt s h1)) : St2 F :=
  (VecWindow.put s.1 (k0_off14 (placeAt s h1)) S8x91.size
      (k0_pay13 iR8 iC8 (rowOf (placeAt s h1)) (colOf (placeAt s h1)) (VecWindow.window s.1 (k0_off14 (placeAt s h1)) S8x91.size (k0_off14_inb _ h2))),
   carry2 k sh sw s.2 (chunkOf s.2.1) (chunkAt s h1) (placeAt s h1) (VecWindow.window B (k0_off17 (placeAt s h1)) S8x128.size (k0_off17_inb _ h2)))

/-- A state whose trip meets its two range conditions. -/
def InRange (s : St2 F) : Prop := ∃ h1 : k0_chk1 (chunkOf s.2.1), k0_chk2 (placeAt s h1)

open Classical in
/-- One trip; a state that is out of range stays. -/
def trip2 (B : Vec F S625x128 .f32) (sh sw : Elt F .f32) (k : Fin k0_t2_loop.trips) (s : St2 F) : St2 F :=
  if h : InRange s then trip2At B sh sw k s h.1 h.2 else s

theorem trip2_eq (B : Vec F S625x128 .f32) (sh sw : Elt F .f32) (k : Fin k0_t2_loop.trips) (s : St2 F)
    (h1 : k0_chk1 (chunkOf s.2.1)) (h2 : k0_chk2 (placeAt s h1)) : trip2 B sh sw k s = trip2At B sh sw k s h1 h2 := by
  rw [trip2, dif_pos ⟨h1, h2⟩]

/-- What the second loop starts from: the scores and chunk maxima that the first leaves, nothing found. -/
def start2 (s : St1 F) : St2 F := (s.1, (s.2, k0_pay25, k0_pay26, k0_pay25, k0_pay25, k0_pay25, k0_pay25))

/-- The state before trip `k` of the second loop. -/
def run2 (B : Vec F S625x128 .f32) (sh sw : Elt F .f32) (s0 : St2 F) : ℕ → St2 F
  | 0 => s0
  | k + 1 => if h : k < k0_t2_loop.trips then trip2 B sh sw ⟨k, h⟩ (run2 B sh sw s0 k) else run2 B sh sw s0 k

theorem run2_succ (B : Vec F S625x128 .f32) (sh sw : Elt F .f32) (s0 : St2 F) (k : Fin k0_t2_loop.trips) :
    run2 B sh sw s0 (k.val + 1) = trip2 B sh sw k (run2 B sh sw s0 k.val) := by
  rw [run2, dif_pos k.isLt]

end Cert.Proof

end
-- ==== Proof.Trips.lean ====
/-
  One trip of each loop, run: what the slots hold after it and what it yields are the step functions' values.
-/
module

public import proofs.«01_k».proof.Proof.Steps
public import proofs.«01_k».proof.Proof.Gen.KernelIdeal.Loops

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝒱₀" => Variants.none

variable (c : Dev nD) (t : Fin grid0.N)
  (arg1 : Memref sig .tc .hbm S16x20000x91 .f32) (harg1 : arg1.IsWhole) (arg2 : Memref sig .tc .hbm S16x625x128 .f32) (harg2 : arg2.IsWhole)
  (arg3 : Memref sig .tc .smem S1x1x2 .f32) (harg3 : arg3.IsWhole) (arg4 : Memref sig .tc .vmem S1x1x100 .f32) (harg4 : arg4.IsWhole)
  (arg5 : Memref sig .tc .vmem S1x1x100 .i32) (harg5 : arg5.IsWhole) (arg6 : Memref sig .tc .vmem S1x1x4x100 .f32) (harg6 : arg6.IsWhole)
  (harg7 : scL.IsWhole) (harg8 : scB.IsWhole) (arg9 : DmaSems sig S_) (arg10 : DmaSems sig S_)

/-- What a slot reads after one store over it: the window's values put in place. -/
theorem readL_put (s : Fin 2) (f : BufOf (F := F) c (slotL s)) (off : Fin 2 → Nat) (size : Fin 2 → Nat) (inb : ∀ a, off a + size a ≤ S20000x91.size a)
    (w : (Rect.unit (s := S20000x91) off size inb).shape.Idx → Elt F .f32) :
    (slotL s).view.read (Elt F) ((slotL s).view.writes (Elt F) f [⟨Rect.unit (s := S20000x91) off size inb, w⟩])
      = VecWindow.put ((slotL s).view.read (Elt F) f) off size w := by
  rw [View.read_writes_cons_put _ _ _ _ _ rfl]; rfl

set_option maxHeartbeats 4000000 in
/-- The first loop's trip. -/
theorem trip1_run (k : Fin k0_t1_loop.trips) (acc : FVec F S2x128 .f32) (f : BufOf (F := F) c (slotL (Ring.sl 2 t.val))) :
    (inL c (Ring.sl 2 t.val) f : sProp 𝕄) ⊢ wp Idealize.ShloMosaic.frame (wpE (defs₀ (F := F)) 𝒱₀ (c : Thread nD τ) none) Set.univ
      (k0_t1_body (F := F) (grid0.coords t) arg1 harg1 arg2 harg2 arg3 harg3 arg4 harg4 arg5 harg5 arg6 harg6 scL harg7 scB harg8 arg9 arg10 k acc)
      (fun r => iprop(∃ f', inL c (Ring.sl 2 t.val) f' ∗ ⌜((slotL (Ring.sl 2 t.val)).view.read (Elt F) f', r) = trip1 k ((slotL (Ring.sl 2 t.val)).view.read (Elt F) f, acc)⌝)) := by
  unfold k0_t1_body
  iintro H
  sl_exec
  sl_step
  iexists _
  isplitl [H]; · iexact H
  ipureintro
  refine Prod.ext ?_ ?_
  · rw [readL_put]
    rfl
  · rfl

set_option maxHeartbeats 8000000 in
/-- The second loop's trip, from a state in range. -/
theorem trip2_run (v20 : FVec F S2x128 .f32) (sh sw : Elt F .f32) (k : Fin k0_t2_loop.trips) (acc : Acc F)
    (f : BufOf (F := F) c (slotL (Ring.sl 2 t.val))) (g : BufOf (F := F) c (slotB (Ring.sl 2 t.val)))
    (h1 : k0_chk1 (chunkOf acc.1)) (h2 : k0_chk2 (placeAt ((slotL (Ring.sl 2 t.val)).view.read (Elt F) f, acc) h1)) :
    (iprop(inL c (Ring.sl 2 t.val) f ∗ inB c (Ring.sl 2 t.val) g) : sProp 𝕄) ⊢ wp Idealize.ShloMosaic.frame (wpE (defs₀ (F := F)) 𝒱₀ (c : Thread nD τ) none) Set.univ
      (k0_t2_body (F := F) (grid0.coords t) arg1 harg1 arg2 harg2 arg3 harg3 arg4 harg4 arg5 harg5 arg6 harg6 scL harg7 scB harg8 arg9 arg10 iR iC v20 sh sw iK iR80 iC80 iR8 iC8 jR8 jC8 k acc)
      (fun r => iprop(∃ f', (inL c (Ring.sl 2 t.val) f' ∗ inB c (Ring.sl 2 t.val) g)
        ∗ ⌜((slotL (Ring.sl 2 t.val)).view.read (Elt F) f', r) = trip2At ((slotB (Ring.sl 2 t.val)).view.read (Elt F) g) sh sw k ((slotL (Ring.sl 2 t.val)).view.read (Elt F) f, acc) h1 h2⌝)) := by
  obtain ⟨a12, a13, a14, a15, a16, a17, a18⟩ := acc
  unfold k0_t2_body
  dsimp only at h1 h2 ⊢
  simp only [k0_part1_eq_skeleton, k0_part2_eq_skeleton, k0_part3_eq_skeleton, k0_part4_eq_skeleton, k0_part5_eq_skeleton]
  iintro ⟨HL, HB⟩
  sl_exec (disch := first | exact h1 | exact h2)
  sl_step
  iexists _
  isplitl [HL HB]
  · isplitl [HL]; · iexact HL
    iexact HB
  ipureintro
  refine Prod.ext ?_ ?_
  · rw [readL_put]
    rfl
  · rfl

end Cert.Proof

end
-- ==== Proof.Work.lean ====
/-
  The part of the body after the transfers: the two loops over the slots and the stores of the results.
-/
module

public import proofs.«01_k».proof.Proof.Trips

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝒱₀" => Variants.none

variable (c : Dev nD) (t : Fin grid0.N)
  (arg1 : Memref sig .tc .hbm S16x20000x91 .f32) (harg1 : arg1.IsWhole) (arg2 : Memref sig .tc .hbm S16x625x128 .f32) (harg2 : arg2.IsWhole)
  (arg3 : Memref sig .tc .smem S1x1x2 .f32) (harg3 : arg3.IsWhole) (arg4 : Memref sig .tc .vmem S1x1x100 .f32) (harg4 : arg4.IsWhole)
  (arg5 : Memref sig .tc .vmem S1x1x100 .i32) (harg5 : arg5.IsWhole) (arg6 : Memref sig .tc .vmem S1x1x4x100 .f32) (harg6 : arg6.IsWhole)
  (arg7 : Memref sig .tc .vmem S2x20000x91 .f32) (harg7 : arg7.IsWhole) (arg8 : Memref sig .tc .vmem S2x625x128 .f32) (harg8 : arg8.IsWhole)
  (arg9 : DmaSems sig S_) (arg10 : DmaSems sig S_)

/-- The body's transfers: the first point's two, the two waits, the next point's two. -/
def moves (i : grid0.Coords) : Prog (TpuEff nD τ sig (Elt F) Λ₀ .tc) PUnit := do
  if k0_h1 : isFirst i then do
    let v58 : Memref sig .tc .vmem S1x20000x91 .f32 := arg7.slice (Rect.unit (s := S2x20000x91) ![0, 0, 0] S1x20000x91.size inb_S2x20000x91_S1x20000x91_0_0_0) (fun _ => rfl)
    let v59 : Memref sig .tc .vmem S20000x91 .f32 := v58.squeeze S20000x91 squeezes_S1x20000x91_S20000x91
    let v60 : Memref sig .tc .hbm S1x20000x91 .f32 := arg1.slice (Rect.unit (s := S16x20000x91) ![0, 0, 0] S1x20000x91.size inb_S16x20000x91_S1x20000x91_0_0_0) (fun _ => rfl)
    let v61 : Memref sig .tc .hbm S20000x91 .f32 := v60.squeeze S20000x91 squeezes_S1x20000x91_S20000x91
    Prog.lift (.enqueueDma v61 (.here v59) (.dma arg9.sem) ((View.wordExact_bits rfl).reshape _ _) ((View.wordExact_bits rfl).reshape _ _) ⟨Or.inl rfl, trivial⟩)
    let v62 : Memref sig .tc .vmem S1x625x128 .f32 := arg8.slice (Rect.unit (s := S2x625x128) ![0, 0, 0] S1x625x128.size inb_S2x625x128_S1x625x128_0_0_0) (fun _ => rfl)
    let v63 : Memref sig .tc .vmem S625x128 .f32 := v62.squeeze S625x128 squeezes_S1x625x128_S625x128
    let v64 : Memref sig .tc .hbm S1x625x128 .f32 := arg2.slice (Rect.unit (s := S16x625x128) ![0, 0, 0] S1x625x128.size inb_S16x625x128_S1x625x128_0_0_0) (fun _ => rfl)
    let v65 : Memref sig .tc .hbm S625x128 .f32 := v64.squeeze S625x128 squeezes_S1x625x128_S625x128
    Prog.lift (.enqueueDma v65 (.here v63) (.dma arg10.sem) ((View.wordExact_bits rfl).reshape _ _) ((View.wordExact_bits rfl).reshape _ _) ⟨Or.inl rfl, trivial⟩)
    pure ⟨⟩
  else do
    pure ⟨⟩
  let v4 : Memref sig .tc .vmem S1x20000x91 .f32 := arg7.slice (Rect.unit (s := S2x20000x91) (k0_off1 i) S1x20000x91.size (k0_off1_inb i)) (fun _ => rfl)
  let v5 : Memref sig .tc .vmem S20000x91 .f32 := v4.squeeze S20000x91 squeezes_S1x20000x91_S20000x91
  let v6 : Memref sig .tc .hbm S1x20000x91 .f32 := arg1.slice (Rect.unit (s := S16x20000x91) (k0_off2 i) S1x20000x91.size (k0_off2_inb i)) (fun _ => rfl)
  let v7 : Memref sig .tc .hbm S20000x91 .f32 := v6.squeeze S20000x91 squeezes_S1x20000x91_S20000x91
  Prog.lift (.waitDma2 arg9.sem v7 v5 ((View.wordExact_bits rfl).reshape _ _) ((View.wordExact_bits rfl).reshape _ _))
  let v8 : Memref sig .tc .vmem S1x625x128 .f32 := arg8.slice (Rect.unit (s := S2x625x128) (k0_off3 i) S1x625x128.size (k0_off3_inb i)) (fun _ => rfl)
  let v9 : Memref sig .tc .vmem S625x128 .f32 := v8.squeeze S625x128 squeezes_S1x625x128_S625x128
  let v10 : Memref sig .tc .hbm S1x625x128 .f32 := arg2.slice (Rect.unit (s := S16x625x128) (k0_off4 i) S1x625x128.size (k0_off4_inb i)) (fun _ => rfl)
  let v11 : Memref sig .tc .hbm S625x128 .f32 := v10.squeeze S625x128 squeezes_S1x625x128_S625x128
  Prog.lift (.waitDma2 arg10.sem v11 v9 ((View.wordExact_bits rfl).reshape _ _) ((View.wordExact_bits rfl).reshape _ _))
  if k0_h2 : k0_cond2 i = 1#1 then do
    let v60 : Memref sig .tc .vmem S1x20000x91 .f32 := arg7.slice (Rect.unit (s := S2x20000x91) (k0_off5 i) S1x20000x91.size (k0_off5_inb i k0_h2)) (fun _ => rfl)
    let v61 : Memref sig .tc .vmem S20000x91 .f32 := v60.squeeze S20000x91 squeezes_S1x20000x91_S20000x91
    let v62 : Memref sig .tc .hbm S1x20000x91 .f32 := arg1.slice (Rect.unit (s := S16x20000x91) (k0_off6 i) S1x20000x91.size (k0_off6_inb i k0_h2)) (fun _ => rfl)
    let v63 : Memref sig .tc .hbm S20000x91 .f32 := v62.squeeze S20000x91 squeezes_S1x20000x91_S20000x91
    Prog.lift (.enqueueDma v63 (.here v61) (.dma arg9.sem) ((View.wordExact_bits rfl).reshape _ _) ((View.wordExact_bits rfl).reshape _ _) ⟨Or.inl rfl, trivial⟩)
    let v66 : Memref sig .tc .vmem S1x625x128 .f32 := arg8.slice (Rect.unit (s := S2x625x128) (k0_off7 i) S1x625x128.size (k0_off7_inb i k0_h2)) (fun _ => rfl)
    let v67 : Memref sig .tc .vmem S625x128 .f32 := v66.squeeze S625x128 squeezes_S1x625x128_S625x128
    let v68 : Memref sig .tc .hbm S1x625x128 .f32 := arg2.slice (Rect.unit (s := S16x625x128) (k0_off8 i) S1x625x128.size (k0_off8_inb i k0_h2)) (fun _ => rfl)
    let v69 : Memref sig .tc .hbm S625x128 .f32 := v68.squeeze S625x128 squeezes_S1x625x128_S625x128
    Prog.lift (.enqueueDma v69 (.here v67) (.dma arg10.sem) ((View.wordExact_bits rfl).reshape _ _) ((View.wordExact_bits rfl).reshape _ _) ⟨Or.inl rfl, trivial⟩)
    pure ⟨⟩
  else do
    pure ⟨⟩

/-- The rest of the body. -/
def work (i : grid0.Coords) : Prog (TpuEff nD τ sig (Elt F) Λ₀ .tc) PUnit := do
  let v20 : FVec F S2x128 .f32 ← Scf.Loop.for k0_t1_loop k0_t1_ok (k0_pay21 (F := F)) (k0_t1_body i arg1 harg1 arg2 harg2 arg3 harg3 arg4 harg4 arg5 harg5 arg6 harg6 arg7 harg7 arg8 harg8 arg9 arg10)
  let v21 : Elt F .f32 ← smemLoad arg3 (Rect.unit (s := S1x1x2) ![0, 0, 0] S1x1x1.size inb_S1x1x2_S1x1x1_0_0_0) numel1_S1x1x1 rfl
  let v22 : Elt F .f32 ← smemLoad arg3 (Rect.unit (s := S1x1x2) ![0, 0, 1] S1x1x1.size inb_S1x1x2_S1x1x1_0_0_1) numel1_S1x1x1 rfl
  let v54 : FVec F S1x100 .f32 ← k0_part7 i arg1 harg1 arg2 harg2 arg3 harg3 arg4 harg4 arg5 harg5 arg6 harg6 arg7 harg7 arg8 harg8 arg9 arg10 iR iC v20 v21 v22 iK iR80 iC80 iR8 iC8 jR8 jC8
  Prog.lift (.store arg6 (Rect.unit (s := S1x1x4x100) ![0, 0, 3, 0] S1x1x1x100.size inb_S1x1x4x100_S1x1x1x100_0_0_3_0) (k0_pay1 v54) Finset.univ (View.stores_vmem_bits_univ h_S1x1x1x100 rfl) (.inl rfl))
  pure ⟨⟩

set_option maxHeartbeats 2000000 in
/-- The body is its transfers, then the rest. -/
theorem body_split (i : grid0.Coords) :
    cc0__pp_kernel (F := F) i arg1 harg1 arg2 harg2 arg3 harg3 arg4 harg4 arg5 harg5 arg6 harg6 arg7 harg7 arg8 harg8 arg9 arg10
      = moves arg1 arg2 arg7 arg8 arg9 arg10 i >>=
          fun _ => work arg1 harg1 arg2 harg2 arg3 harg3 arg4 harg4 arg5 harg5 arg6 harg6 arg7 harg7 arg8 harg8 arg9 arg10 i := by
  simp only [cc0__pp_kernel_eq_skeleton, cc0__pp_kernel_skel, k0_part6_eq_skeleton, k0_part6_skel, moves, work]
  by_cases h1 : Scalar.cmpi .ne (Scalar.extui (Scalar.cmpi .eq (BitVec.ofNat 32 (i 0).val) 0#32)) 0#32 = 1#1 <;> by_cases h2 : k0_cond2 i = 1#1
  · rw [dif_pos h1, dif_pos h1]; simp only [dif_pos h2, Prog.bind_assoc]; rfl
  · rw [dif_pos h1, dif_pos h1]; simp only [dif_neg h2, Prog.bind_assoc]; rfl
  · rw [dif_neg h1, dif_neg h1]; simp only [dif_pos h2, Prog.bind_assoc]; rfl
  · rw [dif_neg h1, dif_neg h1]; simp only [dif_neg h2, Prog.bind_assoc]; rfl

/-- What the body leaves in the boxes' staging buffer: the four rows of 100, laid over anything. -/
def boxRows (r0 r1 r2 r3 : FVec F S1x1x1x100 .f32) (z : Vec F S1x1x4x100 .f32) : Vec F S1x1x4x100 .f32 :=
  VecWindow.put (VecWindow.put (VecWindow.put (VecWindow.put z ![0, 0, 0, 0] S1x1x1x100.size r0) ![0, 0, 1, 0] S1x1x1x100.size r1)
    ![0, 0, 2, 0] S1x1x1x100.size r2) ![0, 0, 3, 0] S1x1x1x100.size r3

/-- The cell of the sizes' block at column `j`. -/
def ixA (j : Fin 2) : S1x1x2.Idx := fun a => match a with
  | ⟨0, _⟩ => (⟨0, by decide⟩ : Fin 1) | ⟨1, _⟩ => (⟨0, by decide⟩ : Fin 1) | ⟨2, _⟩ => (j : Fin 2)

/-- The two sizes the body reads off the sizes' block: the height and the width. -/
abbrev heightOf (z : Vec F S1x1x2 .f32) : Elt F .f32 := z (ixA 0)
abbrev widthOf (z : Vec F S1x1x2 .f32) : Elt F .f32 := z (ixA 1)

/-- The state the two loops end in, from an image's logits, boxes and sizes. -/
def final (X : Vec F S20000x91 .f32) (B : Vec F S625x128 .f32) (z : Vec F S1x1x2 .f32) : St2 F :=
  run2 B (heightOf z) (widthOf z) (start2 (run1 X k0_t1_loop.trips)) k0_t2_loop.trips
/-- Every state of the second loop is in range. -/
def Safe (X : Vec F S20000x91 .f32) (B : Vec F S625x128 .f32) (z : Vec F S1x1x2 .f32) : Prop :=
  ∀ k < k0_t2_loop.trips, InRange (run2 B (heightOf z) (widthOf z) (start2 (run1 X k0_t1_loop.trips)) k)

abbrev outScores (s : St2 F) : Vec F S1x1x100 .f32 := k0_pay30 s.2.2.1
abbrev outLabels (s : St2 F) : Vec F S1x1x100 .i32 := k0_pay31 s.2.2.2.1
abbrev outBoxes (s : St2 F) (z : Vec F S1x1x4x100 .f32) : Vec F S1x1x4x100 .f32 :=
  boxRows (k0_pay32 s.2.2.2.2.1) (k0_pay33 s.2.2.2.2.2.1) (k0_pay34 s.2.2.2.2.2.2.1) (k0_pay1 (k0_pay35 s.2.2.2.2.2.2.2)) z

set_option maxHeartbeats 8000000 in
/-- The rest of the body, run. -/
theorem work_run (z : Vec F S1x1x2 .f32) (f : BufOf (F := F) c (slotL (Ring.sl 2 t.val))) (g : BufOf (F := F) c (slotB (Ring.sl 2 t.val)))
    (hok : Safe ((slotL (Ring.sl 2 t.val)).view.read (Elt F) f) ((slotB (Ring.sl 2 t.val)).view.read (Elt F) g) z) (K : PUnit → sProp 𝕄) :
    iprop(owns (c : Thread nD τ) arg3 fullShare z ∗ (∃ d, owns (c : Thread nD τ) arg4 fullShare d) ∗ (∃ d, owns (c : Thread nD τ) arg5 fullShare d) ∗ (∃ d, owns (c : Thread nD τ) arg6 fullShare d)
      ∗ inL c (Ring.sl 2 t.val) f ∗ inB c (Ring.sl 2 t.val) g
      ∗ (iprop(∃ f' d, owns (c : Thread nD τ) arg3 fullShare z
          ∗ owns (c : Thread nD τ) arg4 fullShare (outScores (final ((slotL (Ring.sl 2 t.val)).view.read (Elt F) f) ((slotB (Ring.sl 2 t.val)).view.read (Elt F) g) z))
          ∗ owns (c : Thread nD τ) arg5 fullShare (outLabels (final ((slotL (Ring.sl 2 t.val)).view.read (Elt F) f) ((slotB (Ring.sl 2 t.val)).view.read (Elt F) g) z))
          ∗ owns (c : Thread nD τ) arg6 fullShare (outBoxes (final ((slotL (Ring.sl 2 t.val)).view.read (Elt F) f) ((slotB (Ring.sl 2 t.val)).view.read (Elt F) g) z) d)
          ∗ inL c (Ring.sl 2 t.val) f' ∗ inB c (Ring.sl 2 t.val) g) -∗ K ⟨⟩))
    ⊢ wp Idealize.ShloMosaic.frame (wpE (defs₀ (F := F)) 𝒱₀ (c : Thread nD τ) none) Set.univ
        (work arg1 harg1 arg2 harg2 arg3 harg3 arg4 harg4 arg5 harg5 arg6 harg6 scL (Memref.isWhole_whole _) scB (Memref.isWhole_whole _) arg9 arg10 (grid0.coords t)) K := by
  unfold work
  simp only [k0_part7_eq_skeleton, k0_part7_skel, Prog.bind_assoc]
  unfold owns
  iintro ⟨⟨%f3, %h3, H3⟩, ⟨%d4, %f4, %h4, H4⟩, ⟨%d5, %f5, %h5, H5⟩, ⟨%d6, %f6, %h6, H6⟩, HL, HB, Hk⟩
  sl_for (fun (k : ℕ) (acc : FVec F S2x128 .f32) =>
    iprop(∃ f', inL (F := F) c (Ring.sl 2 t.val) f' ∗ ⌜((slotL (Ring.sl 2 t.val)).view.read (Elt F) f', acc) = run1 ((slotL (Ring.sl 2 t.val)).view.read (Elt F) f) k⌝)) $$ [HL]
  · intro k acc
    iintro ⟨%f', H, %e⟩
    iapply (wp_wand_r Idealize.ShloMosaic.frame (wpE (defs₀ (F := F)) 𝒱₀ (c : Thread nD τ) none) Set.univ)
    isplitl [H]
    · iapply (trip1_run c t arg1 harg1 arg2 harg2 arg3 harg3 arg4 harg4 arg5 harg5 arg6 harg6 _ _ arg9 arg10 k acc f'); iexact H
    · iintro %r ⟨%f'', H, %e'⟩
      iexists f''
      isplitl [H]; · iexact H
      ipureintro
      rw [e', e]; exact (run1_succ _ k).symm
  · iexists f
    isplitl [HL]; · iexact HL
    ipureintro; rfl
  iintro %v20 ⟨%f1, HL, %e1⟩
  sl_exec
  have eh : work_run.sl.r c arg3 f3 = heightOf z := by
    sl_unfold_words
    rw [← h3]
    show View.read (Elt F) arg3.view f3 _ = View.read (Elt F) arg3.view f3 _
    congr 1; funext a; fin_cases a <;> rfl
  have ew : work_run.sl.r_1 c arg3 f3 = widthOf z := by
    sl_unfold_words
    rw [← h3]
    show View.read (Elt F) arg3.view f3 _ = View.read (Elt F) arg3.view f3 _
    congr 1; funext a; fin_cases a <;> rfl
  sl_for (fun (k : ℕ) (acc : Acc F) =>
    iprop(∃ f', (inL (F := F) c (Ring.sl 2 t.val) f' ∗ inB c (Ring.sl 2 t.val) g) ∗ ⌜((slotL (Ring.sl 2 t.val)).view.read (Elt F) f', acc)
      = run2 ((slotB (Ring.sl 2 t.val)).view.read (Elt F) g) (heightOf z) (widthOf z) (start2 (run1 ((slotL (Ring.sl 2 t.val)).view.read (Elt F) f) k0_t1_loop.trips)) k⌝)) $$ [HL HB]
  · intro k acc
    iintro ⟨%f', H, %e⟩
    have hr := hok k.val k.isLt
    rw [← e] at hr
    obtain ⟨h1, h2⟩ := hr
    iapply (wp_wand_r Idealize.ShloMosaic.frame (wpE (defs₀ (F := F)) 𝒱₀ (c : Thread nD τ) none) Set.univ)
    isplitl [H]
    · iapply (trip2_run c t arg1 harg1 arg2 harg2 arg3 harg3 arg4 harg4 arg5 harg5 arg6 harg6 _ _ arg9 arg10 v20 _ _ k acc f' g h1 h2); iexact H
    · iintro %r ⟨%f'', H, %e'⟩
      iexists f''
      isplitl [H]; · iexact H
      ipureintro
      rw [e', eh, ew]
      refine Eq.trans ?_ (run2_succ _ _ _ _ k).symm
      rw [← e]; exact (trip2_eq _ _ _ _ _ h1 h2).symm
  · iexists f1
    isplitl [HL HB]
    · isplitl [HL]; · iexact HL
      iexact HB
    ipureintro
    have e1' : run1 ((slotL (Ring.sl 2 t.val)).view.read (Elt F) f) k0_t1_loop.trips = ((slotL (Ring.sl 2 t.val)).view.read (Elt F) f1, v20) := e1.symm
    rw [e1']; rfl
  iintro %acc ⟨%f2, ⟨HL, HB⟩, %e2⟩
  have e2' : ((slotL (Ring.sl 2 t.val)).view.read (Elt F) f2, acc) = final ((slotL (Ring.sl 2 t.val)).view.read (Elt F) f) ((slotB (Ring.sl 2 t.val)).view.read (Elt F) g) z := e2
  rw [← e2']
  sl_exec
  sl_step
  iapply Hk
  iexists f2, _
  isplitl [H3]
  · iexists f3
    isplitr; · ipureintro; exact h3
    iexact H3
  isplitl [H4]
  · iexists _
    isplitr
    swap; · iexact H4
    ipureintro
    exact View.read_writes_full _ _ _ _ _
  isplitl [H5]
  · iexists _
    isplitr
    swap; · iexact H5
    ipureintro
    exact View.read_writes_full _ _ _ _ _
  isplitl [H6]
  · iexists _
    isplitr
    swap; · iexact H6
    ipureintro
    unfold outBoxes boxRows
    rw [View.read_writes_cons_put _ _ _ _ _ rfl, View.read_writes_cons_put _ _ _ _ _ rfl, View.read_writes_cons_put _ _ _ _ _ rfl, View.read_writes_cons_put _ _ _ _ _ rfl]
  isplitl [HL]; · iexact HL
  iexact HB

end Cert.Proof

end
-- ==== Proof.Moves.lean ====
/-
  The transfers of the body at a grid point: at the first point the point's own blocks are started too; both blocks are
  waited for; the next point's are started where there is a next point.
-/
module

public import proofs.«01_k».proof.Proof.Work

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝒱₀" => Variants.none

variable (c : Dev nD) (t : Fin grid0.N) (X : BufOf (F := F) c hbL) (B : BufOf (F := F) c hbB)

/-- Image `b`'s logits and boxes. -/
abbrev logitsOf (b : Fin 16) : Vec F S20000x91 .f32 := (blkL b).view.read (Elt F) X
abbrev boxesOf (b : Fin 16) : Vec F S625x128 .f32 := (blkB b).view.read (Elt F) B

/-- A slot after block `b` has landed reads that block. -/
theorem read_landedL (s : Fin 2) (b : Fin 16) (f : BufOf (F := F) c (slotL s)) :
    (slotL s).view.read (Elt F) (landedL c X s b f) = logitsOf c X b := View.read_writes_whole _ _ _
theorem read_landedB (s : Fin 2) (b : Fin 16) (f : BufOf (F := F) c (slotB s)) :
    (slotB s).view.read (Elt F) (landedB c B s b f) = boxesOf c B b := View.read_writes_whole _ _ _

/-- The program of the transfers at point `t`. -/
abbrev movesAt : Prog (TpuEff nD τ sig (Elt F) Λ₀ .tc) PUnit := moves hbL hbB scL scB cc0_scratch2 cc0_scratch3 (grid0.coords t)

set_option maxHeartbeats 4000000 in
/-- The first point. -/
theorem moves_first (h0 : isFirst (grid0.coords t)) (h1 : hasNext (grid0.coords t)) (W : Waits sig Unit)
    (fL : BufOf (F := F) c (slotL (Ring.sl 2 t.val))) (fL' : BufOf (F := F) c (slotL (Ring.sl 2 (t.val + 1))))
    (fB : BufOf (F := F) c (slotB (Ring.sl 2 t.val))) (fB' : BufOf (F := F) c (slotB (Ring.sl 2 (t.val + 1)))) (K : PUnit → sProp 𝕄) :
    iprop((zeroL c ∗ inL c (Ring.sl 2 t.val) fL ∗ copyL c X (Ring.sl 2 t.val) ∗ inL c (Ring.sl 2 (t.val + 1)) fL' ∗ copyL c X (Ring.sl 2 (t.val + 1)))
      ∗ (zeroB c ∗ inB c (Ring.sl 2 t.val) fB ∗ copyB c B (Ring.sl 2 t.val) ∗ inB c (Ring.sl 2 (t.val + 1)) fB' ∗ copyB c B (Ring.sl 2 (t.val + 1)))
      ∗ owes (c : Thread nD τ) 0 W
      ∗ (iprop((inL c (Ring.sl 2 t.val) (landedL c X (Ring.sl 2 t.val) (Ring.bk 16 t.val) fL) ∗ copyL c X (Ring.sl 2 t.val)
            ∗ flyL c X (Ring.sl 2 (t.val + 1)) (Ring.bk 16 (t.val + 1)) fL' ∗ restL c X (Ring.sl 2 (t.val + 1)) (Ring.bk 16 (t.val + 1)))
          ∗ (inB c (Ring.sl 2 t.val) (landedB c B (Ring.sl 2 t.val) (Ring.bk 16 t.val) fB) ∗ copyB c B (Ring.sl 2 t.val)
            ∗ flyB c B (Ring.sl 2 (t.val + 1)) (Ring.bk 16 (t.val + 1)) fB' ∗ restB c B (Ring.sl 2 (t.val + 1)) (Ring.bk 16 (t.val + 1)))
          ∗ (∃ W', owes (c : Thread nD τ) 0 W')) -∗ K ⟨⟩))
    ⊢ wp Idealize.ShloMosaic.frame (wpE (defs₀ (F := F)) 𝒱₀ (c : Thread nD τ) none) Set.univ (movesAt t) K := by
  haveI : Fact (isFirst (grid0.coords t)) := ⟨h0⟩
  haveI : Fact (hasNext (grid0.coords t)) := ⟨h1⟩
  unfold movesAt moves
  iintro ⟨⟨H8, HL, HX, HL', HX'⟩, ⟨H9, HB, HY, HB', HY'⟩, HW, Hk⟩
  ihave HXs := (copyL_split c X (Ring.sl 2 t.val) (Ring.bk 16 t.val)).1 $$ HX
  icases HXs with ⟨HXl, HXr⟩
  ihave HXs' := (copyL_split c X (Ring.sl 2 (t.val + 1)) (Ring.bk 16 (t.val + 1))).1 $$ HX'
  icases HXs' with ⟨HXl', HXr'⟩
  ihave HYs := (copyB_split c B (Ring.sl 2 t.val) (Ring.bk 16 t.val)).1 $$ HY
  icases HYs with ⟨HYl, HYr⟩
  ihave HYs' := (copyB_split c B (Ring.sl 2 (t.val + 1)) (Ring.bk 16 (t.val + 1))).1 $$ HY'
  icases HYs' with ⟨HYl', HYr'⟩
  sl_exec (disch := first | sl_exact h0 | sl_exact h1)
  sl_step
  iapply Hk
  isplitl [HL HXl HXr H8 HXr']
  · isplitl [HL]; · iexact HL
    isplitl [HXl HXr]
    · iapply (copyL_split c X (Ring.sl 2 t.val) (Ring.bk 16 t.val)).2; isplitl [HXl]; · iexact HXl
      iexact HXr
    isplitl [H8]; · iexact H8
    iexact HXr'
  isplitl [HB HYl HYr H9 HYr']
  · isplitl [HB]; · iexact HB
    isplitl [HYl HYr]
    · iapply (copyB_split c B (Ring.sl 2 t.val) (Ring.bk 16 t.val)).2; isplitl [HYl]; · iexact HYl
      iexact HYr
    isplitl [H9]; · iexact H9
    iexact HYr'
  iexists _; iexact HW

set_option maxHeartbeats 4000000 in
/-- A later point that has a next one. -/
theorem moves_next (h0 : ¬isFirst (grid0.coords t)) (h1 : hasNext (grid0.coords t)) (W : Waits sig Unit)
    (fL : BufOf (F := F) c (slotL (Ring.sl 2 t.val))) (fL' : BufOf (F := F) c (slotL (Ring.sl 2 (t.val + 1))))
    (fB : BufOf (F := F) c (slotB (Ring.sl 2 t.val))) (fB' : BufOf (F := F) c (slotB (Ring.sl 2 (t.val + 1)))) (K : PUnit → sProp 𝕄) :
    iprop((flyL c X (Ring.sl 2 t.val) (Ring.bk 16 t.val) fL ∗ restL c X (Ring.sl 2 t.val) (Ring.bk 16 t.val) ∗ inL c (Ring.sl 2 (t.val + 1)) fL' ∗ copyL c X (Ring.sl 2 (t.val + 1)))
      ∗ (flyB c B (Ring.sl 2 t.val) (Ring.bk 16 t.val) fB ∗ restB c B (Ring.sl 2 t.val) (Ring.bk 16 t.val) ∗ inB c (Ring.sl 2 (t.val + 1)) fB' ∗ copyB c B (Ring.sl 2 (t.val + 1)))
      ∗ owes (c : Thread nD τ) 0 W
      ∗ (iprop((inL c (Ring.sl 2 t.val) (landedL c X (Ring.sl 2 t.val) (Ring.bk 16 t.val) fL) ∗ copyL c X (Ring.sl 2 t.val)
            ∗ flyL c X (Ring.sl 2 (t.val + 1)) (Ring.bk 16 (t.val + 1)) fL' ∗ restL c X (Ring.sl 2 (t.val + 1)) (Ring.bk 16 (t.val + 1)))
          ∗ (inB c (Ring.sl 2 t.val) (landedB c B (Ring.sl 2 t.val) (Ring.bk 16 t.val) fB) ∗ copyB c B (Ring.sl 2 t.val)
            ∗ flyB c B (Ring.sl 2 (t.val + 1)) (Ring.bk 16 (t.val + 1)) fB' ∗ restB c B (Ring.sl 2 (t.val + 1)) (Ring.bk 16 (t.val + 1)))
          ∗ (∃ W', owes (c : Thread nD τ) 0 W')) -∗ K ⟨⟩))
    ⊢ wp Idealize.ShloMosaic.frame (wpE (defs₀ (F := F)) 𝒱₀ (c : Thread nD τ) none) Set.univ (movesAt t) K := by
  haveI : Fact (¬isFirst (grid0.coords t)) := ⟨h0⟩
  haveI : Fact (hasNext (grid0.coords t)) := ⟨h1⟩
  unfold movesAt moves
  iintro ⟨⟨H8, HXr, HL', HX'⟩, ⟨H9, HYr, HB', HY'⟩, HW, Hk⟩
  ihave HXs' := (copyL_split c X (Ring.sl 2 (t.val + 1)) (Ring.bk 16 (t.val + 1))).1 $$ HX'
  icases HXs' with ⟨HXl', HXr'⟩
  ihave HYs' := (copyB_split c B (Ring.sl 2 (t.val + 1)) (Ring.bk 16 (t.val + 1))).1 $$ HY'
  icases HYs' with ⟨HYl', HYr'⟩
  sl_exec (disch := first | sl_exact h0 | sl_exact h1)
  sl_step
  iapply Hk
  isplitl [H8_dst H8_src HXr H8 HXr']
  · isplitl [H8_dst]; · iexact H8_dst
    isplitl [H8_src HXr]
    · iapply (copyL_split c X (Ring.sl 2 t.val) (Ring.bk 16 t.val)).2; isplitl [H8_src]; · iexact H8_src
      iexact HXr
    isplitl [H8]; · iexact H8
    iexact HXr'
  isplitl [H9_dst H9_src HYr H9 HYr']
  · isplitl [H9_dst]; · iexact H9_dst
    isplitl [H9_src HYr]
    · iapply (copyB_split c B (Ring.sl 2 t.val) (Ring.bk 16 t.val)).2; isplitl [H9_src]; · iexact H9_src
      iexact HYr
    isplitl [H9]; · iexact H9
    iexact HYr'
  iexists _; iexact HW

set_option maxHeartbeats 4000000 in
/-- The last point. -/
theorem moves_last (h0 : ¬isFirst (grid0.coords t)) (h1 : ¬hasNext (grid0.coords t)) (W : Waits sig Unit)
    (fL : BufOf (F := F) c (slotL (Ring.sl 2 t.val))) (fB : BufOf (F := F) c (slotB (Ring.sl 2 t.val))) (K : PUnit → sProp 𝕄) :
    iprop((flyL c X (Ring.sl 2 t.val) (Ring.bk 16 t.val) fL ∗ restL c X (Ring.sl 2 t.val) (Ring.bk 16 t.val))
      ∗ (flyB c B (Ring.sl 2 t.val) (Ring.bk 16 t.val) fB ∗ restB c B (Ring.sl 2 t.val) (Ring.bk 16 t.val))
      ∗ owes (c : Thread nD τ) 0 W
      ∗ (iprop((inL c (Ring.sl 2 t.val) (landedL c X (Ring.sl 2 t.val) (Ring.bk 16 t.val) fL) ∗ copyL c X (Ring.sl 2 t.val) ∗ zeroL c)
          ∗ (inB c (Ring.sl 2 t.val) (landedB c B (Ring.sl 2 t.val) (Ring.bk 16 t.val) fB) ∗ copyB c B (Ring.sl 2 t.val) ∗ zeroB c)
          ∗ (∃ W', owes (c : Thread nD τ) 0 W')) -∗ K ⟨⟩))
    ⊢ wp Idealize.ShloMosaic.frame (wpE (defs₀ (F := F)) 𝒱₀ (c : Thread nD τ) none) Set.univ (movesAt t) K := by
  haveI : Fact (¬isFirst (grid0.coords t)) := ⟨h0⟩
  haveI : Fact (¬hasNext (grid0.coords t)) := ⟨h1⟩
  unfold movesAt moves
  iintro ⟨⟨H8, HXr⟩, ⟨H9, HYr⟩, HW, Hk⟩
  sl_exec (disch := first | sl_exact h0 | sl_exact h1)
  sl_step
  iapply Hk
  isplitl [H8_dst H8_src HXr H8]
  · isplitl [H8_dst]; · iexact H8_dst
    isplitl [H8_src HXr]
    · iapply (copyL_split c X (Ring.sl 2 t.val) (Ring.bk 16 t.val)).2; isplitl [H8_src]; · iexact H8_src
      iexact HXr
    iexact H8
  isplitl [H9_dst H9_src HYr H9]
  · isplitl [H9_dst]; · iexact H9_dst
    isplitl [H9_src HYr]
    · iapply (copyB_split c B (Ring.sl 2 t.val) (Ring.bk 16 t.val)).2; isplitl [H9_src]; · iexact H9_src
      iexact HYr
    iexact H9
  iexists _; iexact HW

end Cert.Proof

end
-- ==== Proof.Body.lean ====
/-
  The body at every grid point: from what is held before the point to what is held after it, with the results of the
  point's image in the staging buffers.
-/
module

public import proofs.«01_k».proof.Proof.Moves

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "𝒱₀" => Variants.none

/-! ## The four rows of boxes cover the block -/

/-- The rows laid over one array or another are the same: they cover it. -/
theorem boxRows_base (r0 r1 r2 r3 : FVec F S1x1x1x100 .f32) (z z' : Vec F S1x1x4x100 .f32) : boxRows r0 r1 r2 r3 z = boxRows r0 r1 r2 r3 z' := by
  funext y
  have h0 : (y 0).val < 1 := (y 0).isLt
  have h1 : (y 1).val < 1 := (y 1).isLt
  have h2 : (y 2).val < 4 := (y 2).isLt
  have h3 : (y 3).val < 100 := (y 3).isLt
  have hin : ∀ (k : ℕ), (y 2).val = k → ∀ a : Fin 4, (![0, 0, k, 0] : Fin 4 → ℕ) a ≤ (y a).val ∧ (y a).val < (![0, 0, k, 0] : Fin 4 → ℕ) a + S1x1x1x100.size a := by
    intro k hk a
    fin_cases a
    · exact ⟨Nat.zero_le _, show (y 0).val < 0 + 1 by omega⟩
    · exact ⟨Nat.zero_le _, show (y 1).val < 0 + 1 by omega⟩
    · exact ⟨hk.ge, show (y 2).val < k + 1 by omega⟩
    · exact ⟨Nat.zero_le _, show (y 3).val < 0 + 100 by omega⟩
  unfold boxRows VecWindow.put
  by_cases e3 : (y 2).val = 3
  · rw [dif_pos (hin 3 e3), dif_pos (hin 3 e3)]
  split
  · rfl
  by_cases e2 : (y 2).val = 2
  · rw [dif_pos (hin 2 e2), dif_pos (hin 2 e2)]
  split
  · rfl
  by_cases e1 : (y 2).val = 1
  · rw [dif_pos (hin 1 e1), dif_pos (hin 1 e1)]
  split
  · rfl
  have e0 : (y 2).val = 0 := by omega
  rw [dif_pos (hin 0 e0), dif_pos (hin 0 e0)]

/-! ## One grid point -/

section Point

variable (c : Dev nD) (t : Fin grid0.N) (X : BufOf (F := F) c hbL) (B : BufOf (F := F) c hbB)
  (arg3 : Memref sig .tc .smem S1x1x2 .f32) (harg3 : arg3.IsWhole) (arg4 : Memref sig .tc .vmem S1x1x100 .f32) (harg4 : arg4.IsWhole)
  (arg5 : Memref sig .tc .vmem S1x1x100 .i32) (harg5 : arg5.IsWhole) (arg6 : Memref sig .tc .vmem S1x1x4x100 .f32) (harg6 : arg6.IsWhole)

/-- The state that point `t` ends in. -/
abbrev finalAt (z : Vec F S1x1x2 .f32) : St2 F := final (logitsOf c X (Ring.bk 16 t.val)) (boxesOf c B (Ring.bk 16 t.val)) z

/-- The body at point `t`. -/
abbrev bodyOf : Prog (TpuEff nD τ sig (Elt F) Λ₀ .tc) PUnit :=
  cc0__pp_kernel (grid0.coords t) hbL (Memref.isWhole_whole _) hbB (Memref.isWhole_whole _) arg3 harg3 arg4 harg4 arg5 harg5 arg6 harg6
    scL (Memref.isWhole_whole _) scB (Memref.isWhole_whole _) cc0_scratch2 cc0_scratch3

/-- What the point leaves. -/
def leaves (z : Vec F S1x1x2 .f32) (z0 : Vec F S1x1x4x100 .f32) : sProp 𝕄 :=
  iprop(atPoint c X B (t.val + 1) ∗ (∃ W', owes (c : Thread nD τ) 0 W') ∗ owns (c : Thread nD τ) arg3 fullShare z
    ∗ owns (c : Thread nD τ) arg4 fullShare (outScores (finalAt c t X B z)) ∗ owns (c : Thread nD τ) arg5 fullShare (outLabels (finalAt c t X B z))
    ∗ owns (c : Thread nD τ) arg6 fullShare (outBoxes (finalAt c t X B z) z0))

/-- The work on a landed slot, and what it leaves of the buffers. -/
theorem work_landed (z : Vec F S1x1x2 .f32) (z0 : Vec F S1x1x4x100 .f32) (fL : BufOf (F := F) c (slotL (Ring.sl 2 t.val))) (fB : BufOf (F := F) c (slotB (Ring.sl 2 t.val)))
    (hok : Safe (logitsOf c X (Ring.bk 16 t.val)) (boxesOf c B (Ring.bk 16 t.val)) z) (K : PUnit → sProp 𝕄) :
    iprop(owns (c : Thread nD τ) arg3 fullShare z ∗ (∃ d, owns (c : Thread nD τ) arg4 fullShare d) ∗ (∃ d, owns (c : Thread nD τ) arg5 fullShare d) ∗ (∃ d, owns (c : Thread nD τ) arg6 fullShare d)
      ∗ inL c (Ring.sl 2 t.val) (landedL c X (Ring.sl 2 t.val) (Ring.bk 16 t.val) fL) ∗ inB c (Ring.sl 2 t.val) (landedB c B (Ring.sl 2 t.val) (Ring.bk 16 t.val) fB)
      ∗ (iprop(owns (c : Thread nD τ) arg3 fullShare z
          ∗ owns (c : Thread nD τ) arg4 fullShare (outScores (finalAt c t X B z)) ∗ owns (c : Thread nD τ) arg5 fullShare (outLabels (finalAt c t X B z))
          ∗ owns (c : Thread nD τ) arg6 fullShare (outBoxes (finalAt c t X B z) z0)
          ∗ (∃ f, inL c (Ring.sl 2 t.val) f) ∗ (∃ f, inB c (Ring.sl 2 t.val) f)) -∗ K ⟨⟩))
    ⊢ wp Idealize.ShloMosaic.frame (wpE (defs₀ (F := F)) 𝒱₀ (c : Thread nD τ) none) Set.univ
        (work hbL (Memref.isWhole_whole _) hbB (Memref.isWhole_whole _) arg3 harg3 arg4 harg4 arg5 harg5 arg6 harg6 scL (Memref.isWhole_whole _) scB (Memref.isWhole_whole _) cc0_scratch2 cc0_scratch3 (grid0.coords t)) K := by
  iintro ⟨H3, H4, H5, H6, HL, HB, Hk⟩
  have hw := work_run (F := F) c t hbL (Memref.isWhole_whole _) hbB (Memref.isWhole_whole _) arg3 harg3 arg4 harg4 arg5 harg5 arg6 harg6 cc0_scratch2 cc0_scratch3 z
    (landedL c X (Ring.sl 2 t.val) (Ring.bk 16 t.val) fL) (landedB c B (Ring.sl 2 t.val) (Ring.bk 16 t.val) fB)
  rw [read_landedL, read_landedB] at hw
  iapply (hw hok K)
  isplitl [H3]; · iexact H3
  isplitl [H4]; · iexact H4
  isplitl [H5]; · iexact H5
  isplitl [H6]; · iexact H6
  isplitl [HL]; · iexact HL
  isplitl [HB]; · iexact HB
  iintro ⟨%f', %d, H3, H4, H5, H6, HL, HB⟩
  iapply Hk
  isplitl [H3]; · iexact H3
  isplitl [H4]; · iexact H4
  isplitl [H5]; · iexact H5
  isplitl [H6]
  · have e : outBoxes (finalAt c t X B z) z0 = outBoxes (finalAt c t X B z) d := boxRows_base _ _ _ _ _ _
    rw [e]; iexact H6
  isplitl [HL]; · iexists _; iexact HL
  iexists _; iexact HB

set_option maxHeartbeats 1000000 in
/-- The body at point `t`, whichever it is. -/
theorem point_run (z : Vec F S1x1x2 .f32) (z0 : Vec F S1x1x4x100 .f32) (W : Waits sig Unit)
    (hok : Safe (logitsOf c X (Ring.bk 16 t.val)) (boxesOf c B (Ring.bk 16 t.val)) z) :
    iprop(atPoint c X B t.val ∗ owes (c : Thread nD τ) 0 W ∗ owns (c : Thread nD τ) arg3 fullShare z
      ∗ (∃ d, owns (c : Thread nD τ) arg4 fullShare d) ∗ (∃ d, owns (c : Thread nD τ) arg5 fullShare d) ∗ (∃ d, owns (c : Thread nD τ) arg6 fullShare d))
    ⊢ wp Idealize.ShloMosaic.frame (wpE (defs₀ (F := F)) 𝒱₀ (c : Thread nD τ) none) Set.univ
        (bodyOf t arg3 harg3 arg4 harg4 arg5 harg5 arg6 harg6) (fun _ => leaves c t X B arg3 arg4 arg5 arg6 z z0) := by
  have hN : t.val < 16 := lt_of_lt_of_eq t.isLt N_0
  have hsl : Ring.sl 2 (t.val + 2) = Ring.sl 2 t.val := Ring.sl_add 2 t.val
  unfold bodyOf
  rw [body_split, wp_bind]
  by_cases e0 : t.val = 0
  · have h0 : isFirst (grid0.coords t) := (isFirst_iff t).mpr e0
    have h1 : hasNext (grid0.coords t) := (hasNext_iff t).mpr (by omega)
    have a0 : (atPoint c X B t.val : sProp 𝕄) = iprop(freeL c X ∗ freeB c B) := if_pos (Or.inl e0)
    have a1 : (atPoint c X B (t.val + 1) : sProp 𝕄) = iprop(busyL c X (Ring.sl 2 (t.val + 1)) (Ring.sl 2 (t.val + 1 + 1)) (Ring.bk 16 (t.val + 1)) ∗ busyB c B (Ring.sl 2 (t.val + 1)) (Ring.sl 2 (t.val + 1 + 1)) (Ring.bk 16 (t.val + 1))) :=
      if_neg (by omega)
    have s0 : (0 : Fin 2) = Ring.sl 2 t.val := by rw [e0]; rfl
    have s1 : (1 : Fin 2) = Ring.sl 2 (t.val + 1) := by rw [e0]; rfl
    unfold leaves
    rw [a0, a1]
    unfold freeL freeB busyL busyB
    rw [s0, s1, show t.val + 1 + 1 = t.val + 2 from rfl, hsl]
    iintro ⟨⟨⟨H8, ⟨⟨%fL, HL⟩, HX⟩, ⟨%fL', HL'⟩, HX'⟩, ⟨H9, ⟨⟨%fB, HB⟩, HY⟩, ⟨%fB', HB'⟩, HY'⟩⟩, HW, H3, H4, H5, H6⟩
    iapply (moves_first c t X B h0 h1 W fL fL' fB fB')
    isplitl [H8 HL HX HL' HX']
    · isplitl [H8]; · iexact H8
      isplitl [HL]; · iexact HL
      isplitl [HX]; · iexact HX
      isplitl [HL']; · iexact HL'
      iexact HX'
    isplitl [H9 HB HY HB' HY']
    · isplitl [H9]; · iexact H9
      isplitl [HB]; · iexact HB
      isplitl [HY]; · iexact HY
      isplitl [HB']; · iexact HB'
      iexact HY'
    isplitl [HW]; · iexact HW
    iintro ⟨⟨HL, HX, H8, HXr⟩, ⟨HB, HY, H9, HYr⟩, HW⟩
    iapply (work_landed c t X B arg3 harg3 arg4 harg4 arg5 harg5 arg6 harg6 z z0 fL fB hok)
    isplitl [H3]; · iexact H3
    isplitl [H4]; · iexact H4
    isplitl [H5]; · iexact H5
    isplitl [H6]; · iexact H6
    isplitl [HL]; · iexact HL
    isplitl [HB]; · iexact HB
    iintro ⟨H3, H4, H5, H6, HL, HB⟩
    isplitl [HL HX H8 HXr HB HY H9 HYr]
    · isplitl [HL HX H8 HXr]
      · isplitl [H8]; · iexists _; iexact H8
        isplitl [HXr]; · iexact HXr
        isplitl [HL]; · iexact HL
        iexact HX
      · isplitl [H9]; · iexists _; iexact H9
        isplitl [HYr]; · iexact HYr
        isplitl [HB]; · iexact HB
        iexact HY
    isplitl [HW]; · iexact HW
    isplitl [H3]; · iexact H3
    isplitl [H4]; · iexact H4
    isplitl [H5]; · iexact H5
    iexact H6
  have h0 : ¬isFirst (grid0.coords t) := fun h => e0 ((isFirst_iff t).mp h)
  have a0 : (atPoint c X B t.val : sProp 𝕄) = iprop(busyL c X (Ring.sl 2 t.val) (Ring.sl 2 (t.val + 1)) (Ring.bk 16 t.val) ∗ busyB c B (Ring.sl 2 t.val) (Ring.sl 2 (t.val + 1)) (Ring.bk 16 t.val)) :=
    if_neg (by omega)
  by_cases e1 : t.val < 15
  · have h1 : hasNext (grid0.coords t) := (hasNext_iff t).mpr e1
    have a1 : (atPoint c X B (t.val + 1) : sProp 𝕄) = iprop(busyL c X (Ring.sl 2 (t.val + 1)) (Ring.sl 2 (t.val + 1 + 1)) (Ring.bk 16 (t.val + 1)) ∗ busyB c B (Ring.sl 2 (t.val + 1)) (Ring.sl 2 (t.val + 1 + 1)) (Ring.bk 16 (t.val + 1))) :=
      if_neg (by omega)
    unfold leaves
    rw [a0, a1]
    unfold busyL busyB
    rw [show t.val + 1 + 1 = t.val + 2 from rfl, hsl]
    iintro ⟨⟨⟨⟨%fL, H8⟩, HXr, ⟨%fL', HL'⟩, HX'⟩, ⟨⟨%fB, H9⟩, HYr, ⟨%fB', HB'⟩, HY'⟩⟩, HW, H3, H4, H5, H6⟩
    iapply (moves_next c t X B h0 h1 W fL fL' fB fB')
    isplitl [H8 HXr HL' HX']
    · isplitl [H8]; · iexact H8
      isplitl [HXr]; · iexact HXr
      isplitl [HL']; · iexact HL'
      iexact HX'
    isplitl [H9 HYr HB' HY']
    · isplitl [H9]; · iexact H9
      isplitl [HYr]; · iexact HYr
      isplitl [HB']; · iexact HB'
      iexact HY'
    isplitl [HW]; · iexact HW
    iintro ⟨⟨HL, HX, H8, HXr⟩, ⟨HB, HY, H9, HYr⟩, HW⟩
    iapply (work_landed c t X B arg3 harg3 arg4 harg4 arg5 harg5 arg6 harg6 z z0 fL fB hok)
    isplitl [H3]; · iexact H3
    isplitl [H4]; · iexact H4
    isplitl [H5]; · iexact H5
    isplitl [H6]; · iexact H6
    isplitl [HL]; · iexact HL
    isplitl [HB]; · iexact HB
    iintro ⟨H3, H4, H5, H6, HL, HB⟩
    isplitl [HL HX H8 HXr HB HY H9 HYr]
    · isplitl [HL HX H8 HXr]
      · isplitl [H8]; · iexists _; iexact H8
        isplitl [HXr]; · iexact HXr
        isplitl [HL]; · iexact HL
        iexact HX
      · isplitl [H9]; · iexists _; iexact H9
        isplitl [HYr]; · iexact HYr
        isplitl [HB]; · iexact HB
        iexact HY
    isplitl [HW]; · iexact HW
    isplitl [H3]; · iexact H3
    isplitl [H4]; · iexact H4
    isplitl [H5]; · iexact H5
    iexact H6
  · have h1 : ¬hasNext (grid0.coords t) := fun h => e1 ((hasNext_iff t).mp h)
    have e15 : t.val = 15 := by omega
    have a1 : (atPoint c X B (t.val + 1) : sProp 𝕄) = iprop(freeL c X ∗ freeB c B) := if_pos (Or.inr (by omega))
    have s0 : (0 : Fin 2) = Ring.sl 2 (t.val + 1) := by rw [e15]; rfl
    have s1 : (1 : Fin 2) = Ring.sl 2 t.val := by rw [e15]; rfl
    unfold leaves
    rw [a0, a1]
    unfold freeL freeB busyL busyB
    rw [s0, s1]
    iintro ⟨⟨⟨⟨%fL, H8⟩, HXr, HL', HX'⟩, ⟨⟨%fB, H9⟩, HYr, HB', HY'⟩⟩, HW, H3, H4, H5, H6⟩
    iapply (moves_last c t X B h0 h1 W fL fB)
    isplitl [H8 HXr]
    · isplitl [H8]; · iexact H8
      iexact HXr
    isplitl [H9 HYr]
    · isplitl [H9]; · iexact H9
      iexact HYr
    isplitl [HW]; · iexact HW
    iintro ⟨⟨HL, HX, H8⟩, ⟨HB, HY, H9⟩, HW⟩
    iapply (work_landed c t X B arg3 harg3 arg4 harg4 arg5 harg5 arg6 harg6 z z0 fL fB hok)
    isplitl [H3]; · iexact H3
    isplitl [H4]; · iexact H4
    isplitl [H5]; · iexact H5
    isplitl [H6]; · iexact H6
    isplitl [HL]; · iexact HL
    isplitl [HB]; · iexact HB
    iintro ⟨H3, H4, H5, H6, HL, HB⟩
    isplitl [HL HX H8 HL' HX' HB HY H9 HB' HY']
    · isplitl [HL HX H8 HL' HX']
      · isplitl [H8]; · iexact H8
        isplitl [HL' HX']
        · isplitl [HL']; · iexact HL'
          iexact HX'
        isplitl [HL]; · iexact HL
        iexact HX
      · isplitl [H9]; · iexact H9
        isplitl [HB' HY']
        · isplitl [HB']; · iexact HB'
          iexact HY'
        isplitl [HB]; · iexact HB
        iexact HY
    isplitl [HW]; · iexact HW
    isplitl [H3]; · iexact H3
    isplitl [H4]; · iexact H4
    isplitl [H5]; · iexact H5
    iexact H6

end Point

end Cert.Proof

end
-- ==== Proof.Launch.lean ====
/-
  The launch: what the region holds between two points, what each window's buffer holds after each, and the run of the
  whole program from any memory in which no image leaves the range.
-/
module

public import proofs.«01_k».proof.Proof.Body
public import Idealize.ShloMosaic.Lib.Pipeline.Value
public import Idealize.ShloMosaic.Lib.StableHlo.Run

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
local notation "𝒱₀" => Variants.none

variable (m : (ℓ : Loc nD τ sig) → Buf (Elt F) ℓ) (ρ : Dev nD → PrngReg)

/-! ## The program around the region -/

set_option maxHeartbeats 800000 in
/-- The host lines before the region, the region, the host lines after it. -/
theorem around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's two semaphores, and the two operands that its transfers read. -/
def ownSem : Fin 2 → SemLoc sig := ![SemLoc.dma 8, SemLoc.dma 9]
theorem ownSem_facts : Pipeline.OwnSemFacts spec0 ownSem := by decide
def moved : Finset (Ref sig .tc) := {main_arg0, main_v0}
theorem moved_sub : moved ⊆ Pipeline.restRefs sig spec0 := by decide

theorem ownSems_eq (c : Dev nD) : (Pipeline.ownSems0 ownSem c : sProp 𝕄) = iprop(zeroL c ∗ zeroB c) := by
  rw [Pipeline.ownSems0_eq_of_list c ownSem [0, 1] (by decide) (by decide)]; rfl
theorem moved_eq (c : Dev nD) : (bigSep moved (fun b => ((c : Thread nD τ).loc b) ↦{fullShare} V m c b) : sProp 𝕄)
    = iprop(heldAt c hbL (V m c main_arg0) ∗ heldAt c hbB (V m c main_v0)) := by
  rw [BI.bigSep_eq_bigSepL_of_eq [main_arg0, main_v0] (by decide) (by decide)]; rfl
theorem handed_eq (c : Dev nD) : (Pipeline.ΦD ownSem spec0 moved (V m) c : sProp 𝕄)
    = iprop(((∃ d, owns (c : Thread nD τ) scL fullShare d) ∗ (∃ d, owns (c : Thread nD τ) scB fullShare d)) ∗ (∃ r, prngReg c r)
        ∗ (zeroL c ∗ zeroB c) ∗ heldAt c hbL (V m c main_arg0) ∗ heldAt c hbB (V m c main_v0)) := by
  rw [Pipeline.ΦD_eq, scopedRest0_eq, ownSems_eq, moved_eq]; simp only [scL, scB, owns_whole]; try rfl

/-! ## What holds at each point -/

/-- Between two points: the register and the pieces of the two double buffers. -/
def between (c : Dev nD) (k : ℕ) : sProp 𝕄 := iprop((∃ r, prngReg c r) ∗ atPoint c (V m c main_arg0) (V m c main_v0) k)

/-- The state that point `t` ends in, from the memory at launch. -/
def ends (c : Dev nD) (t : Fin cfg0.N) : St2 F := finalAt c t (V m c main_arg0) (V m c main_v0) (iblk m c 0 t)
/-- Some block of boxes: what the four rows are laid over does not matter. -/
def anyBoxes : Vec F S1x1x4x100 .f32 := boxRows (k0_pay32 k0_pay25) (k0_pay32 k0_pay25) (k0_pay32 k0_pay25) (k0_pay32 k0_pay25) (fun _ => k0_pay25 (fun a => match a with | ⟨0, _⟩ => (⟨0, by decide⟩ : Fin 1) | ⟨1, _⟩ => (⟨0, by decide⟩ : Fin 128)))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outScores (ends m c t)
    | ⟨2, _⟩ => outLabels (ends m c t)
    | ⟨3, _⟩ => outBoxes (ends m c t) anyBoxes
  Φ t := between m c t.val
  q _ := fullShare
  owed _ := 0

theorem A_eq (c : Dev nD) (w : Fin cfg0.W) : (dats m 0 c).A w = V m c (Pipeline.arrRef spec0 w) := by dsimp only [dats]
theorem between_castSucc (c : Dev nD) (t : Fin cfg0.N) : (dats m 0 c).Φ t.castSucc = between m c t.val := by
  dsimp only [dats]; simp only [Fin.val_castSucc]
theorem between_succ (c : Dev nD) (t : Fin cfg0.N) : (dats m 0 c).Φ t.succ = between m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = outScores (ends m c t) := by dsimp only [dats]
theorem after2 (c : Dev nD) (t : Fin cfg0.N) : (dats m 0 c).after 2 t = outLabels (ends m c t) := by dsimp only [dats]
theorem after3 (c : Dev nD) (t : Fin cfg0.N) : (dats m 0 c).after 3 t = outBoxes (ends m c t) anyBoxes := by dsimp only [dats]

/-- The sizes' buffer holds the point's sizes. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)

/-- No image of the memory leaves the range. -/
def AllSafe : Prop := ∀ (c : Dev nD) (t : Fin cfg0.N),
  Safe (logitsOf c (V m c main_arg0) (Ring.bk 16 t.val)) (boxesOf c (V m c main_v0) (Ring.bk 16 t.val)) (iblk m c 0 t)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1200000 in
/-- The body at any point. -/
theorem body_sound (hs : AllSafe m) (c : Dev nD) (t : Fin cfg0.N) :
    bodyPre m c t ⊢ wp Idealize.ShloMosaic.frame (wpE (defs₀ (F := F)) 𝒱₀ (c : Thread nD τ) none) Set.univ (bodyAt0 t) (fun _ => bodyPost m c t) := by
  unfold bodyPre bodyPost bodyAt0
  simp only [before0]
  rw [after0, after1, after2, after3, between_castSucc, between_succ]
  unfold Dat.owesAt Pipeline.owesWithin
  rw [show (dats m 0 c).owed t.castSucc = 0 from rfl, show (dats m 0 c).owed t.succ = 0 from rfl]
  unfold between
  iintro ⟨⟨Hg, Hp⟩, ⟨%W, -, HW⟩, ⟨%d0, H0⟩, ⟨%d1, H1⟩, ⟨%d2, H2⟩, ⟨%d3, H3⟩⟩
  iapply (wp_wand_r Idealize.ShloMosaic.frame (wpE (defs₀ (F := F)) 𝒱₀ (c : Thread nD τ) none) Set.univ)
  isplitl [Hp HW H0 H1 H2 H3]
  · iapply (point_run (F := F) c t (V m c main_arg0) (V m c main_v0) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (iblk m c 0 t) anyBoxes W (hs c t))
    isplitl [Hp]; · iexact Hp
    isplitl [HW]; · iexact HW
    isplitl [H0]; · iexact H0
    isplitl [H1]; · iexists _; iexact H1
    isplitl [H2]; · iexists _; iexact H2
    iexists _; iexact H3
  · unfold leaves
    iintro %r ⟨Hp, ⟨%W', HW'⟩, H0, H1, H2, H3⟩
    isplitl [Hg Hp]
    · isplitl [Hg]; · iexact Hg
      iexact Hp
    isplitl [HW']
    · iexists W'
      isplitr; · ipureintro; exact fun _ _ => Or.inl trivial
      iexact HW'
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; rw [Defs.onTc_tc]

theorem body_obligation (hs : AllSafe m) (c : Dev nD) : BodyObligation (dats (F := F) m 0 c) (defs₀ (F := F)) Variants.none () Set.univ := fun t => by
  rw [bigSep_W0, bigSep_W0, defs₀_row]
  exact triple_restated (body_sound m hs c t) rfl .rfl fun _ => .rfl

/-- What the launch hands the region is what holds before the first point, -/
theorem handed_in (c : Dev nD) : Pipeline.ΦD ownSem spec0 moved (V m) c ⊢ (dats m 0 c).Φ 0 := by
  rw [handed_eq, show (dats m 0 c).Φ 0 = between m c 0 from rfl]
  unfold between
  rw [show (atPoint c (V m c main_arg0) (V m c main_v0) 0 : sProp 𝕄) = iprop(freeL c (V m c main_arg0) ∗ freeB c (V m c main_v0)) from if_pos (Or.inl rfl)]
  iintro ⟨HS, Hg, Hz, Hh⟩
  isplitl [Hg]; · iexact Hg
  iapply (free_in (F := F) c (V m c main_arg0) (V m c main_v0))
  isplitl [HS]; · iexact HS
  isplitl [Hz]; · iexact Hz
  iexact Hh
/-- and what holds after the last point is handed back. -/
theorem handed_out (c : Dev nD) : (dats m 0 c).Φ (Fin.last cfg0.N) ⊢ Pipeline.ΦD ownSem spec0 moved (V m) c := by
  rw [handed_eq, show (dats m 0 c).Φ (Fin.last cfg0.N) = between m c grid0.N from rfl]
  unfold between
  rw [show (atPoint c (V m c main_arg0) (V m c main_v0) grid0.N : sProp 𝕄) = iprop(freeL c (V m c main_arg0) ∗ freeB c (V m c main_v0)) from if_pos (Or.inr N_0)]
  iintro ⟨Hg, Hp⟩
  ihave HX := (free_out (F := F) c (V m c main_arg0) (V m c main_v0)) $$ Hp
  icases HX with ⟨HS, Hz, Hh⟩
  isplitl [HS]; · iexact HS
  isplitl [Hg]; · iexact Hg
  isplitl [Hz]; · iexact Hz
  iexact Hh

/-! ## The run -/

/-- The lines after the region touch neither of the operands that the transfers read. -/
theorem tail_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  simp only [hostOps1, List.mem_cons, List.mem_nil_iff, or_false] at hop
  rcases hop with rfl | rfl | rfl | rfl
  · exact (by decide : ({Proc.devRef .tc main_v3_0} ∪ {Proc.devRef .tc main_v4} : Finset (DevRef τ sig)) ⊆ Pipeline.tailRefsBut sig Pipeline.Prefetch.none spec0 moved)
  · exact (by decide : ({Proc.devRef .tc main_v3_1} ∪ {Proc.devRef .tc main_v5} : Finset (DevRef τ sig)) ⊆ Pipeline.tailRefsBut sig Pipeline.Prefetch.none spec0 moved)
  · exact (by decide : ({Proc.devRef .tc main_v3_2} ∪ {Proc.devRef .tc main_v6} : Finset (DevRef τ sig)) ⊆ Pipeline.tailRefsBut sig Pipeline.Prefetch.none spec0 moved)
  · exact (by decide : ({Proc.devRef .tc main_v6} ∪ {Proc.devRef .tc main_v7} : Finset (DevRef τ sig)) ⊆ Pipeline.tailRefsBut sig Pipeline.Prefetch.none spec0 moved)

set_option backward.isDefEq.respectTransparency.types false in
/-- The whole program, run: the arrays of the region at what the points left, every other buffer at what the lines after
    the region leave, every semaphore at zero. -/
theorem run_whole (hs : AllSafe m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSem defs₀ Variants.none ownSem_facts moved moved_sub m ρ main
    (hbody := fun c => (body_obligation m hs c).loose) (hshare := fun c => (dats m 0 c).share_full fun _ => rfl)
    (howed := fun _ _ => rfl) (V₀ := V0 m) (opss := [hostOps1]) (hsub := tail_sub) (hfresh := sfx_fresh) (hkeep := sfx_keeps)
    (hmain := around m) (hA := A_eq m) (hin := handed_in m) (hout := handed_out m)

end Cert.Proof

end
-- ==== Proof.Numbers.lean ====
/-
  The kernel's whole-number arithmetic: on words that hold natural numbers in range, its floor divisions, remainders,
  offsets and comparisons of coordinates are those of the naturals.
-/
module

public import proofs.«01_k».proof.Proof.Steps
public import Idealize.ShloMosaic.Lib.Routing.Words
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.WordCmp

/-- The word of a natural number. -/
abbrev nw (a : ℕ) : BitVec 32 := BitVec.ofNat 32 a

theorem nw_toNat {a : ℕ} (h : a < 2 ^ 32) : (nw a).toNat = a := toNat_ofNat_of_lt h

theorem nw_sub {a b : ℕ} (h : b ≤ a) (ha : a < 2 ^ 32) : Scalar.subi (nw a) (nw b) = nw (a - b) := by
  show nw a - nw b = nw (a - b)
  apply BitVec.eq_of_toNat_eq
  simp only [nw, BitVec.toNat_sub, BitVec.toNat_ofNat]
  omega

theorem nw_mul (a b : ℕ) : Scalar.muli (nw a) (nw b) = nw (a * b) := muli_ofNat a b
theorem nw_add (a b : ℕ) : Scalar.addi (nw a) (nw b) = nw (a + b) := addi_ofNat a b

/-- The floor of a quotient, as the body writes it: the quotient toward zero, less one where the signs differ and it is
    not exact. -/
abbrev floorDiv (v d : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt d 0#32)) (Scalar.extui (Scalar.cmpi .slt d 0#32))))
    (Scalar.cmpi .ne (Scalar.remsi v d) 0#32)) (Scalar.subi (Scalar.divsi v d) 1#32) (Scalar.divsi v d)

theorem floorDiv_nw {a b : ℕ} (ha : a < 2 ^ 31) (h0 : 0 < b) (hb : b < 2 ^ 31) : floorDiv (nw a) (nw b) = nw (a / b) := by
  have hr : Scalar.remsi (nw a) (nw b) = nw (a % b) := Routing.remsi_word .scalar ha h0 hb
  have hd : Scalar.divsi (nw a) (nw b) = nw (a / b) := Routing.divsi_word .scalar ha h0 hb
  have e1 : Scalar.cmpi .sgt (nw a) 0#32 = BitVec.ofBool (decide (0 < a)) := cmpi_sgt_ofNat (b := 0) ha (by decide)
  have e2 : Scalar.cmpi .slt (nw a) 0#32 = BitVec.ofBool (decide (a < 0)) := cmpi_slt_ofNat (b := 0) ha (by decide)
  have e3 : Scalar.cmpi .sgt (nw b) 0#32 = BitVec.ofBool (decide (0 < b)) := cmpi_sgt_ofNat (b := 0) hb (by decide)
  have e4 : Scalar.cmpi .slt (nw b) 0#32 = BitVec.ofBool (decide (b < 0)) := cmpi_slt_ofNat (b := 0) hb (by decide)
  have hb' : decide (0 < b) = true := decide_eq_true h0
  have hna : decide (a < 0) = false := decide_eq_false (Nat.not_lt_zero a)
  have hnb : decide (b < 0) = false := decide_eq_false (Nat.not_lt_zero b)
  show Scalar.select (Scalar.andi (Scalar.cmpi .ne (Scalar.subi (Scalar.extui (Scalar.cmpi .sgt (nw a) 0#32)) (Scalar.extui (Scalar.cmpi .slt (nw a) 0#32)))
      (Scalar.subi (Scalar.extui (Scalar.cmpi .sgt (nw b) 0#32)) (Scalar.extui (Scalar.cmpi .slt (nw b) 0#32))))
    (Scalar.cmpi .ne (Scalar.remsi (nw a) (nw b)) 0#32)) (Scalar.subi (Scalar.divsi (nw a) (nw b)) 1#32) (Scalar.divsi (nw a) (nw b)) = _
  rw [e1, e2, e3, e4, hr, hd, hb', hna, hnb]
  rcases Nat.eq_zero_or_pos a with h | h
  · subst h
    rw [Nat.zero_mod]
    rfl
  · rw [decide_eq_true h]
    have e : Scalar.cmpi .ne (Scalar.subi (Scalar.extui (BitVec.ofBool true)) (Scalar.extui (BitVec.ofBool false)))
      (Scalar.subi (Scalar.extui (BitVec.ofBool true)) (Scalar.extui (BitVec.ofBool false))) = 0#1 := by decide
    rw [e]
    show Scalar.select (0#1 &&& _) _ _ = _
    rw [BitVec.zero_and]
    rfl

/-! ## Rows, columns, lanes, offsets -/

theorem rowOf_nw {p : ℕ} (hp : p < 2 ^ 31) : rowOf (nw p) = nw (p / 91) := floorDiv_nw (b := 91) hp (by decide) (by decide)

theorem colOf_nw {p : ℕ} (hp : p < 2 ^ 31) : colOf (nw p) = nw (p % 91) := by
  show Scalar.subi (nw p) (Scalar.muli (rowOf (nw p)) (nw 91)) = _
  rw [rowOf_nw hp, nw_mul, nw_sub (by omega) (by omega)]
  congr 1
  omega

theorem laneOf_nw {n : ℕ} (hn : n < 2 ^ 31) : laneOf (nw n) = nw (n % 32 * 4) := by
  show Scalar.muli (Scalar.subi (nw n) (Scalar.muli (floorDiv (nw n) (nw 32)) (nw 32))) (nw 4) = _
  rw [floorDiv_nw hn (by decide) (by decide), nw_mul, nw_sub (by omega) (by omega), nw_mul]
  congr 2
  omega

theorem slabRow_nw {n : ℕ} (hn : n < 2 ^ 31) (i : S8x128.Idx) : slabRow (nw n) i = nw (n / 32 % 8) := by
  show Scalar.subi (floorDiv (nw n) (nw 32)) (Scalar.muli (floorDiv (floorDiv (nw n) (nw 32)) (nw 8)) (nw 8)) = _
  rw [floorDiv_nw hn (by decide) (by decide), floorDiv_nw (by omega) (by decide) (by decide), nw_mul, nw_sub (by omega) (by omega)]
  congr 1
  omega

theorem off10_nat (k : Fin k0_t1_loop.trips) : k0_off10 k = ![160 * k.val, 0] := by
  revert k; decide

theorem off12_nw {c : ℕ} (hc : c < 2 ^ 24) : k0_off12 (nw c) = ![80 * c, 0] := by
  show ![(Scalar.muli (nw c) (nw 80)).toNat, 0] = _
  rw [nw_mul, nw_toNat (by omega), Nat.mul_comm]

theorem off14_nw {p : ℕ} (hp : p < 2 ^ 31) : k0_off14 (nw p) = ![p / 91 / 8 * 8, 0] := by
  show ![(Scalar.muli (floorDiv (rowOf (nw p)) (nw 8)) (nw 8)).toNat, 0] = _
  rw [rowOf_nw hp, floorDiv_nw (by omega) (by decide) (by decide), nw_mul, nw_toNat (by omega)]

theorem off17_nw {p : ℕ} (hp : p < 2 ^ 31) : k0_off17 (nw p) = ![p / 91 / 32 / 8 * 8, 0] := by
  show ![(Scalar.muli (floorDiv (floorDiv (rowOf (nw p)) (nw 32)) (nw 8)) (nw 8)).toNat, 0] = _
  rw [rowOf_nw hp, floorDiv_nw (by omega) (by decide) (by decide), floorDiv_nw (by omega) (by decide) (by decide), nw_mul, nw_toNat (by omega)]

/-- A chunk number in range passes the first range check. -/
theorem chk1_nw {c : ℕ} (hc : c < 250) : k0_chk1 (nw c) := by
  unfold k0_chk1
  rw [off12_nw (by omega)]
  intro a
  match a with
  | ⟨0, _⟩ => show 80 * c + 80 ≤ 20000; omega
  | ⟨1, _⟩ => show 0 + 91 ≤ 91; omega

/-- A place whose row lies before 19968 passes the second. -/
theorem chk2_nw {p : ℕ} (hp : p < 1817088) : k0_chk2 (nw p) := by
  unfold k0_chk2
  rw [off14_nw (by omega), off17_nw (by omega)]
  refine ⟨fun a => ?_, fun a => ?_⟩
  · match a with
    | ⟨0, _⟩ => show p / 91 / 8 * 8 + 8 ≤ 20000; omega
    | ⟨1, _⟩ => show 0 + 91 ≤ 91; omega
  · match a with
    | ⟨0, _⟩ => show p / 91 / 32 / 8 * 8 + 8 ≤ 625; omega
    | ⟨1, _⟩ => show 0 + 128 ≤ 128; omega

/-! ## Comparisons of coordinates -/

theorem cmp_eq_nw {a b : ℕ} (ha : a < 2 ^ 32) (hb : b < 2 ^ 32) : IntOp.cmpi .eq (nw a) (nw b) = BitVec.ofBool (decide (a = b)) :=
  cmpi_eq_ofNat ha hb

theorem select_if {α : Type} (p : Prop) [Decidable p] (x y : α) : Scalar.select (BitVec.ofBool (decide p)) x y = if p then x else y :=
  select_decide p x y

theorem and_if (p q : Prop) [Decidable p] [Decidable q] :
    IntOp.andi (BitVec.ofBool (decide p)) (BitVec.ofBool (decide q)) = BitVec.ofBool (decide (p ∧ q)) := by
  rw [andi_ofBool]; congr 1; simp

/-- The iota of a rank-two shape along an axis holds that coordinate. -/
theorem iR_at (i : S2x128.Idx) : iR i = nw (i 0).val := by show nw (0 * 2 + (i 0).val) = _; rw [Nat.zero_mul, Nat.zero_add]
theorem iC_at (i : S2x128.Idx) : iC i = nw (i 1).val := by show nw (0 * 128 + (i 1).val) = _; rw [Nat.zero_mul, Nat.zero_add]
theorem iK_at (i : S1x128.Idx) : iK i = nw (i 1).val := by show nw (0 * 128 + (i 1).val) = _; rw [Nat.zero_mul, Nat.zero_add]
theorem iR80_at (i : S80x91.Idx) : iR80 i = nw (i 0).val := by show nw (0 * 80 + (i 0).val) = _; rw [Nat.zero_mul, Nat.zero_add]
theorem iC80_at (i : S80x91.Idx) : iC80 i = nw (i 1).val := by show nw (0 * 91 + (i 1).val) = _; rw [Nat.zero_mul, Nat.zero_add]
theorem iR8_at (i : S8x91.Idx) : iR8 i = nw (i 0).val := by show nw (0 * 8 + (i 0).val) = _; rw [Nat.zero_mul, Nat.zero_add]
theorem iC8_at (i : S8x91.Idx) : iC8 i = nw (i 1).val := by show nw (0 * 91 + (i 1).val) = _; rw [Nat.zero_mul, Nat.zero_add]
theorem jR8_at (i : S8x128.Idx) : jR8 i = nw (i 0).val := by show nw (0 * 8 + (i 0).val) = _; rw [Nat.zero_mul, Nat.zero_add]
theorem jC8_at (i : S8x128.Idx) : jC8 i = nw (i 1).val := by show nw (0 * 128 + (i 1).val) = _; rw [Nat.zero_mul, Nat.zero_add]

theorem iv_nw (k : ℕ) : Scf.iv 0#32 1#32 k = nw k := by
  show 0#32 + BitVec.ofNat 32 k * 1#32 = _
  rw [BitVec.zero_add, BitVec.mul_one]

variable {F : FTy → Type} [FloatOps F]

/-- The lane trip `k` writes. -/
theorem pay6_at (k : ℕ) (hk : k < 128) (i : S1x128.Idx) : k0_pay6 iK (Scf.iv 0#32 1#32 k) i = BitVec.ofBool (decide ((i 1).val = k)) := by
  show IntOp.cmpi .eq (iK i) (Scf.iv 0#32 1#32 k) = _
  rw [iK_at, iv_nw, cmp_eq_nw (by have : (i 1).val < 128 := (i 1).isLt; omega) (by omega)]

theorem pay10_at {c : ℕ} (hc : c < 256) (i : S2x128.Idx) : k0_pay10 iC (nw c) i = BitVec.ofBool (decide ((i 1).val = c / 2)) := by
  show IntOp.cmpi .eq (iC i) (floorDiv (nw c) (nw 2)) = _
  rw [iC_at, floorDiv_nw (by omega) (by decide) (by decide), cmp_eq_nw (by have : (i 1).val < 128 := (i 1).isLt; omega) (by omega)]

theorem pay11_at {c : ℕ} (hc : c < 256) (i : S2x128.Idx) : k0_pay11 (nw c) i = nw (c % 2) := by
  show Scalar.subi (nw c) (Scalar.muli (floorDiv (nw c) (nw 2)) (nw 2)) = _
  rw [floorDiv_nw (by omega) (by decide) (by decide), nw_mul, nw_sub (by omega) (by omega)]
  congr 1
  omega

/-- The chunk maxima after chunk `c`'s is replaced. -/
theorem pay12_at {c : ℕ} (hc : c < 256) (cm : FVec F S2x128 .f32) (m : F .f32) (i : S2x128.Idx) :
    k0_pay12 iR cm m (k0_pay10 iC (nw c)) (k0_pay11 (nw c)) i = if (i 0).val + 2 * (i 1).val = c then m else cm i := by
  show Scalar.select (IntOp.andi (k0_pay10 iC (nw c) i) (IntOp.cmpi .eq (iR i) (k0_pay11 (nw c) i))) m (cm i) = _
  have h0 : (i 0).val < 2 := (i 0).isLt
  rw [pay10_at hc, pay11_at hc, iR_at, cmp_eq_nw (by omega) (by omega), and_if, select_if]
  congr 1
  exact propext (by omega)

/-- The slab of scores after the picked one is struck out. -/
theorem pay13_at {n c : ℕ} (hn : n < 2 ^ 31) (hc : c < 2 ^ 31) (w : Vec F S8x91 .f32) (i : S8x91.Idx) :
    k0_pay13 iR8 iC8 (nw n) (nw c) w i = if (i 0).val = n % 8 ∧ (i 1).val = c then Scalar.ofBits .f32 0xBF800000#32 else w i := by
  have h0 : (i 0).val < 8 := (i 0).isLt
  have h1 : (i 1).val < 91 := (i 1).isLt
  have e : k0_pay13 iR8 iC8 (nw n) (nw c) w
      = select (andi (cmpi .eq iR8 (broadcast S8x91 (Scalar.subi (nw n) (Scalar.muli (floorDiv (nw n) (nw 8)) (nw 8))))) (cmpi .eq iC8 (broadcast S8x91 (nw c))))
        (broadcast S8x91 (Scalar.ofBits .f32 0xBF800000#32)) w := by
    funext j
    unfold k0_pay13
    exact shapeCast_apply _ _ j j rfl
  rw [e]
  show Scalar.select (IntOp.andi (IntOp.cmpi .eq (iR8 i) (Scalar.subi (nw n) (Scalar.muli (floorDiv (nw n) (nw 8)) (nw 8)))) (IntOp.cmpi .eq (iC8 i) (nw c)))
    (Scalar.ofBits .f32 0xBF800000#32) (w i) = _
  rw [floorDiv_nw hn (by decide) (by decide), nw_mul, nw_sub (by omega) (by omega), iR8_at, iC8_at, cmp_eq_nw (by omega) (by omega),
    cmp_eq_nw (by omega) (by omega), and_if, select_if]
  congr 1
  exact propext (by omega)

end Cert.Proof

end
-- ==== Proof.Tallies.lean ====
/-
  The body's reductions of a whole vector to one number, over the extended reals: a maximum bounds every entry and is one of
  them, a minimum of words picks the least marked place, a sum of a vector with one entry not masked off is that entry.
-/
module

public import proofs.«01_k».proof.Proof.Numbers
public import Idealize.ShloMosaic.PureOps.Ideal.Laws
public import Idealize.ShloMosaic.PureOps.Reduce
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe

/-- Every index of the source drops to the one index of a result with one element. -/
theorem drop_all {u : Shape} {axes : List (Fin u.rank)} (h : u.Reduces axes S1) (j : S1.Idx) :
    (Finset.univ.filter fun i : u.Idx => h.drop i = j) = Finset.univ := by
  refine Finset.filter_true_of_mem fun i _ => ?_
  funext a
  match a with
  | ⟨0, _⟩ => exact Subsingleton.elim (α := Fin 1) _ _

/-- The greatest entry of `v`: a bound, and attained. -/
def IsTop {ι : Type} (v : ι → EReal) (m : EReal) : Prop := (∀ i, v i ≤ m) ∧ ∃ i, v i = m

theorem negInf : (Ideal.ofBits .f32 0xFF800000#32 : EReal) = ⊥ := by
  simp [Ideal.ofBits, Ideal.ieee]

theorem negOne : (Ideal.ofBits .f32 0xBF800000#32 : EReal) = -1 := by
  simp [Ideal.ofBits, Ideal.ieee, -EReal.coe_mul]
  norm_num

theorem fold_max_isTop {ι : Type} [Fintype ι] [Nonempty ι] (v : ι → EReal) : IsTop v (Finset.univ.fold max ⊥ v) := by
  classical
  refine ⟨fun i => (Finset.le_fold_max (v i)).mpr (Or.inr ⟨i, Finset.mem_univ i, le_rfl⟩), ?_⟩
  obtain ⟨i, -, hi⟩ := Finset.exists_max_image Finset.univ v Finset.univ_nonempty
  refine ⟨i, le_antisymm ((Finset.le_fold_max (v i)).mpr (Or.inr ⟨i, Finset.mem_univ i, le_rfl⟩)) ?_⟩
  exact (Finset.fold_max_le (v i)).mpr ⟨bot_le, fun j hj => hi j hj⟩

/-- A maximum over a vector cast to another shape. -/
theorem top_reduce {s u : Shape} [Nonempty s.Idx] {axes : List (Fin u.rank)} (v : FVec Ideal s .f32) (hc : s.ShapeCasts u)
    (h : u.Reduces axes S1) (hs : S1.ShapeCasts S1x1x1) (hp : ∀ a, (![0, 0, 0] : Fin 3 → ℕ) a < S1x1x1.size a) :
    IsTop v (extractAt ![0, 0, 0] (shapeCast S1x1x1 (multiReduction .maximumf axes S1 (shapeCast u v hc) 0xFF800000#32 h (.inl rfl) rfl) hs) hp) := by
  haveI : Nonempty u.Idx := ⟨(Shape.reshapeEquiv hc).symm (Classical.arbitrary s.Idx)⟩
  have e : ∀ j, multiReduction .maximumf axes S1 (shapeCast u v hc) 0xFF800000#32 h (.inl rfl) rfl j
      = Finset.univ.fold max (⊥ : EReal) (shapeCast u v hc) := fun j => by
    refine (multiReduction_maximumf_eq_fold (F := Ideal) _ _ h _ _ j).trans ?_
    rw [drop_all]
    exact congrArg (fun b => Finset.univ.fold max b (shapeCast u v hc)) negInf
  have hm := fold_max_isTop (shapeCast u v hc)
  show IsTop v (multiReduction .maximumf axes S1 (shapeCast u v hc) 0xFF800000#32 h (.inl rfl) rfl _)
  rw [e]
  refine ⟨fun i => ?_, ?_⟩
  · have := hm.1 ((Shape.reshapeEquiv hc).symm i)
    rwa [shapeCast, Equiv.apply_symm_apply] at this
  · obtain ⟨j, hj⟩ := hm.2
    exact ⟨Shape.reshapeEquiv hc j, hj⟩

theorem minsi_cases (x y : BitVec 32) : (IntOp.minsi x y = x ∧ x.toInt ≤ y.toInt) ∨ (IntOp.minsi x y = y ∧ y.toInt ≤ x.toInt) := by
  unfold IntOp.minsi
  by_cases h : x.slt y
  · rw [if_pos h]; left; refine ⟨rfl, ?_⟩; simp [BitVec.slt] at h; omega
  · rw [if_neg h]; right; refine ⟨rfl, ?_⟩; simp [BitVec.slt] at h; omega

theorem fold_min {ι : Type} (s : Finset ι) (b : BitVec 32) (v : ι → BitVec 32) :
    (∀ i ∈ s, (s.fold IntOp.minsi b v).toInt ≤ (v i).toInt) ∧ (s.fold IntOp.minsi b v = b ∨ ∃ i ∈ s, v i = s.fold IntOp.minsi b v)
      ∧ (s.fold IntOp.minsi b v).toInt ≤ b.toInt := by
  classical
  induction s using Finset.induction_on with
  | empty => simp
  | insert a s ha ih =>
    rw [Finset.fold_insert ha]
    obtain ⟨h1, h2, h3⟩ := ih
    rcases minsi_cases (v a) (s.fold IntOp.minsi b v) with ⟨e, hle⟩ | ⟨e, hle⟩
    · rw [e]
      refine ⟨fun i hi => ?_, Or.inr ⟨a, Finset.mem_insert_self a s, rfl⟩, hle.trans h3⟩
      rcases Finset.mem_insert.mp hi with rfl | hi
      · exact le_rfl
      · exact hle.trans (h1 i hi)
    · rw [e]
      refine ⟨fun i hi => ?_, ?_, h3⟩
      · rcases Finset.mem_insert.mp hi with rfl | hi
        · exact hle
        · exact h1 i hi
      · rcases h2 with h2 | ⟨i, hi, h2⟩
        · exact Or.inl h2
        · exact Or.inr ⟨i, Finset.mem_insert_of_mem hi, h2⟩

/-- The least number of a marked entry: the entries marked by `P` hold `f`, the others the greatest word. -/
theorem least_reduce {s u : Shape} {axes : List (Fin u.rank)} (v : IVec s 32) (hc : s.ShapeCasts u)
    (h : u.Reduces axes S1) (hs : S1.ShapeCasts S1x1x1) (hp : ∀ a, (![0, 0, 0] : Fin 3 → ℕ) a < S1x1x1.size a)
    (P : s.Idx → Prop) (f : s.Idx → ℕ) (hf : ∀ i, f i < 2147483647) (h1 : ∀ i, P i → v i = nw (f i))
    (h0 : ∀ i, ¬P i → v i = 2147483647#32) (i₀ : s.Idx) (hi₀ : P i₀) (hmin : ∀ i, P i → f i₀ ≤ f i) :
    extractAt ![0, 0, 0] (shapeCast S1x1x1 (multiReductionI .minsi axes S1 (shapeCast u v hc) 2147483647#32 h rfl) hs) hp = nw (f i₀) := by
  have e : ∀ j, multiReductionI .minsi axes S1 (shapeCast u v hc) 2147483647#32 h rfl j
      = Finset.univ.fold IntOp.minsi 2147483647#32 (shapeCast u v hc) := fun j => by
    refine (multiReductionI_eq_fold .minsi _ _ h _ j).trans ?_
    rw [drop_all]; rfl
  show multiReductionI .minsi axes S1 (shapeCast u v hc) 2147483647#32 h rfl _ = _
  rw [e]
  obtain ⟨hle, hmem, -⟩ := fold_min Finset.univ 2147483647#32 (shapeCast u v hc)
  have hi : ∀ i, (nw (f i)).toInt = (f i : ℤ) := fun i => WordCmp.toInt_ofNat_of_lt (by have := hf i; omega)
  have key := hle ((Shape.reshapeEquiv hc).symm i₀) (Finset.mem_univ _)
  have ev : shapeCast u v hc ((Shape.reshapeEquiv hc).symm i₀) = nw (f i₀) := by
    rw [shapeCast, Equiv.apply_symm_apply, h1 i₀ hi₀]
  rw [ev, hi] at key
  have hbig : (2147483647#32 : BitVec 32).toInt = 2147483647 := by decide
  have hlt := hf i₀
  rcases hmem with hmem | ⟨j, -, hj⟩
  · rw [hmem, hbig] at key; omega
  · rw [← hj] at key ⊢
    have evj : shapeCast u v hc j = v (Shape.reshapeEquiv hc j) := rfl
    rw [evj] at key ⊢
    by_cases hP : P (Shape.reshapeEquiv hc j)
    · rw [h1 _ hP] at key ⊢
      rw [hi] at key
      have := hmin _ hP
      congr 1
      omega
    · rw [h0 _ hP, hbig] at key; omega

/-- The sum of a vector zero off one entry. -/
theorem sum_reduce {s u : Shape} {axes : List (Fin u.rank)} (v : FVec Ideal s .f32) (hc : s.ShapeCasts u)
    (h : u.Reduces axes S1) (hs : S1.ShapeCasts S1x1x1) (hp : ∀ a, (![0, 0, 0] : Fin 3 → ℕ) a < S1x1x1.size a)
    (i₀ : s.Idx) (h0 : ∀ i, i ≠ i₀ → v i = (0 : EReal)) :
    extractAt ![0, 0, 0] (shapeCast S1x1x1 (multiReduction .add axes S1 (shapeCast u v hc) 0x00000000#32 h (.inl rfl) rfl) hs) hp = v i₀ := by
  have e : ∀ j, multiReduction .add axes S1 (shapeCast u v hc) 0x00000000#32 h (.inl rfl) rfl j
      = ∑ i : u.Idx, shapeCast u v hc i := fun j => by
    show Ideal.reduceAdd h (shapeCast u v hc) j = _
    unfold Ideal.reduceAdd
    rw [drop_all]
  show multiReduction .add axes S1 (shapeCast u v hc) 0x00000000#32 h (.inl rfl) rfl _ = _
  rw [e, Finset.sum_eq_single ((Shape.reshapeEquiv hc).symm i₀)]
  · rw [shapeCast, Equiv.apply_symm_apply]
  · intro j _ hj
    exact h0 _ fun ej => hj (by rw [← ej, Equiv.symm_apply_apply])
  · intro hj; exact absurd (Finset.mem_univ _) hj

end Cert.Proof

end
-- ==== Proof.Picks.lean ====
/-
  The mathematics of picking: of `N` values, take the greatest, the first of equals; strike it out; take the greatest left;
  and so on. As long as the values are at least zero and a struck-out one counts as -1, the picks are the head of the
  stable sort of the positions by decreasing value.
-/
module

public import Idealize.ShloMosaic.Lib.SortPrefix
public import Idealize.ShloMosaic.PureOps.Ideal

@[expose] public section

noncomputable section

namespace Cert.Proof

open Idealize.ShloMosaic

/-- A stable sort only ever asks whether a later element comes before an earlier one. -/
theorem stableSort_congr_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

theorem sortedFrom_congr_later {n : ℕ} (R R' : Fin n → Fin n → Bool) (h : ∀ a b, a < b → R b a = R' b a) :
    sortedFrom R = sortedFrom R' := by
  funext k
  unfold sortedFrom
  have e : sortPositions n R = sortPositions n R' :=
    stableSort_congr_later R R' _ ((List.pairwise_lt_finRange n).imp fun {a b} hab => h a b hab)
  rw [List.get_of_eq e]
  rfl

/-- `p` is the first of the greatest of `N` values. -/
def IsBest (N : ℕ) (W : ℕ → EReal) (p : ℕ) : Prop := p < N ∧ (∀ q < N, W q ≤ W p) ∧ ∀ q < p, W q < W p

theorem IsBest.unique {N : ℕ} {W : ℕ → EReal} {p q : ℕ} (hp : IsBest N W p) (hq : IsBest N W q) : p = q := by
  rcases lt_trichotomy p q with h | h | h
  · exact absurd (hq.2.2 p h) (not_lt.mpr (hp.2.1 q hq.1))
  · exact h
  · exact absurd (hp.2.2 q h) (not_lt.mpr (hq.2.1 p hp.1))

theorem exists_isBest {N : ℕ} (hN : 0 < N) (W : ℕ → EReal) : ∃ p, IsBest N W p := by
  classical
  obtain ⟨m, hm, hmax⟩ := Finset.exists_max_image (Finset.range N) W ⟨0, Finset.mem_range.mpr hN⟩
  have hex : ∃ p, p < N ∧ ∀ q < N, W q ≤ W p :=
    ⟨m, Finset.mem_range.mp hm, fun q hq => hmax q (Finset.mem_range.mpr hq)⟩
  refine ⟨Nat.find hex, (Nat.find_spec hex).1, (Nat.find_spec hex).2, fun q hq => ?_⟩
  by_contra hlt
  refine Nat.find_min hex hq ⟨hq.trans (Nat.find_spec hex).1, fun r hr => ?_⟩
  exact ((Nat.find_spec hex).2 r hr).trans (not_lt.mp hlt)

open Classical in
/-- The first of the greatest. -/
def best (N : ℕ) (W : ℕ → EReal) : ℕ := if h : ∃ p, IsBest N W p then h.choose else 0

theorem best_spec {N : ℕ} (hN : 0 < N) (W : ℕ → EReal) : IsBest N W (best N W) := by
  have h := exists_isBest hN W
  rw [best, dif_pos h]
  exact h.choose_spec

/-- The values before pick `k`: a struck-out one is -1. -/
def left (N : ℕ) (V : ℕ → EReal) : ℕ → ℕ → EReal
  | 0 => V
  | k + 1 => fun p => if p = best N (left N V k) then -1 else left N V k p

/-- The position of pick `k`. -/
def pick (N : ℕ) (V : ℕ → EReal) (k : ℕ) : ℕ := best N (left N V k)

theorem left_succ (N : ℕ) (V : ℕ → EReal) (k p : ℕ) :
    left N V (k + 1) p = if p = pick N V k then -1 else left N V k p := rfl

variable {N : ℕ} {V : ℕ → EReal}

theorem left_of_fresh {k p : ℕ} (h : ∀ j < k, pick N V j ≠ p) : left N V k p = V p := by
  induction k with
  | zero => rfl
  | succ k ih =>
    rw [left_succ, if_neg fun e => h k (Nat.lt_succ_self k) e.symm]
    exact ih fun j hj => h j (hj.trans (Nat.lt_succ_self k))

theorem left_of_picked {k p : ℕ} (h : ∃ j < k, pick N V j = p) : left N V k p = -1 := by
  induction k with
  | zero => obtain ⟨j, hj, -⟩ := h; exact absurd hj (Nat.not_lt_zero j)
  | succ k ih =>
    rw [left_succ]
    split
    · rfl
    · rename_i hne
      obtain ⟨j, hj, e⟩ := h
      refine ih ⟨j, ?_, e⟩
      rcases Nat.lt_succ_iff_lt_or_eq.mp hj with h' | h'
      · exact h'
      · subst h'; exact absurd e.symm hne

theorem exists_fresh (k : ℕ) (hk : k < N) : ∃ p < N, ∀ j < k, pick N V j ≠ p := by
  classical
  by_contra hcon
  push Not at hcon
  have hsub : Finset.range N ⊆ (Finset.range k).image (pick N V) := fun p hp => by
    obtain ⟨j, hj, e⟩ := hcon p (Finset.mem_range.mp hp)
    exact Finset.mem_image.mpr ⟨j, Finset.mem_range.mpr hj, e⟩
  have hc := (Finset.card_le_card hsub).trans Finset.card_image_le
  rw [Finset.card_range, Finset.card_range] at hc
  exact absurd hc (not_le.mpr hk)

theorem pick_spec {k : ℕ} (hk : k < N) : IsBest N (left N V k) (pick N V k) :=
  best_spec (Nat.zero_lt_of_lt hk) _

theorem left_pick_nonneg (hV : ∀ p < N, 0 ≤ V p) {k : ℕ} (hk : k < N) : 0 ≤ left N V k (pick N V k) := by
  obtain ⟨p, hp, hfresh⟩ := exists_fresh (V := V) k hk
  have := (pick_spec (V := V) hk).2.1 p hp
  rw [left_of_fresh hfresh] at this
  exact (hV p hp).trans this

theorem neg_one_lt_zero : (-1 : EReal) < 0 := by
  rw [← EReal.coe_one, ← EReal.coe_neg, ← EReal.coe_zero, EReal.coe_lt_coe_iff]; norm_num

theorem pick_fresh (hV : ∀ p < N, 0 ≤ V p) {k : ℕ} (hk : k < N) : ∀ j < k, pick N V j ≠ pick N V k := fun j hj e => by
  have h := left_pick_nonneg hV hk
  rw [left_of_picked ⟨j, hj, e⟩] at h
  exact absurd h (not_le.mpr neg_one_lt_zero)

theorem left_pick (hV : ∀ p < N, 0 ≤ V p) {k : ℕ} (hk : k < N) : left N V k (pick N V k) = V (pick N V k) :=
  left_of_fresh (pick_fresh hV hk)

/-- A position not picked before `k` is no better than pick `k`, and comes after it where it is as good. -/
theorem pick_best (hV : ∀ p < N, 0 ≤ V p) {k p : ℕ} (hk : k < N) (hp : p < N) (h : ∀ j < k, pick N V j ≠ p) :
    V p < V (pick N V k) ∨ (V p = V (pick N V k) ∧ pick N V k ≤ p) := by
  have hs := pick_spec (V := V) hk
  have h1 := hs.2.1 p hp
  rw [left_pick hV hk, left_of_fresh h] at h1
  rcases lt_or_eq_of_le h1 with hlt | heq
  · exact Or.inl hlt
  · refine Or.inr ⟨heq, not_lt.mp fun hlt => ?_⟩
    have h2 := hs.2.2 p hlt
    rw [left_pick hV hk, left_of_fresh h] at h2
    exact absurd heq (ne_of_lt h2)

theorem pick_lt {k : ℕ} (hk : k < N) : pick N V k < N := (pick_spec hk).1

/-- The picks are the head of the stable sort by decreasing value. -/
theorem sortedFrom_eq_pick {n K : ℕ} (hV : ∀ p < n, 0 ≤ V p) (hK : K ≤ n) (i : Fin K) :
    (sortedFrom (fun a b : Fin n => Ideal.cmpTotal .gt (V a.val) (V b.val) == 1#1) (i.castLE hK)).val = pick n V i.val := by
  have hlt : ∀ i : Fin K, i.val < n := fun i => i.isLt.trans_le hK
  let B : Fin n → Fin n → Bool := fun a b =>
    (decide (V b.val < V a.val)) || (decide (V a.val = V b.val) && decide (a < b))
  have hB : StrictTotalBefore B :=
    StrictTotalBefore.of_key_then_position (fun x y : EReal => decide (y < x)) (fun a : Fin n => V a.val)
      (fun a => by simp) (fun a b c h1 h2 => by simp only [decide_eq_true_eq] at *; exact h2.trans h1)
      (fun a b => by
        rcases lt_trichotomy a b with h | h | h
        · exact Or.inr (Or.inr (by simpa using h))
        · exact Or.inr (Or.inl h)
        · exact Or.inl (by simpa using h))
  have hR : sortedFrom (fun a b : Fin n => Ideal.cmpTotal .gt (V a.val) (V b.val) == 1#1) = sortedFrom B := by
    refine sortedFrom_congr_later _ _ fun a b hab => ?_
    show (Ideal.cmpTotal .gt (V b.val) (V a.val) == 1#1) = (decide (V a.val < V b.val) || (decide (V b.val = V a.val) && decide (b < a)))
    have : ¬ b < a := not_lt.mpr hab.le
    rw [decide_eq_false this, Bool.and_false, Bool.or_false]
    by_cases h : V a.val < V b.val <;> simp [Ideal.cmpTotal, Ideal.cmp, CmpDirection.ordered, h]
  rw [hR]
  have key := hB.sortedFrom_eq_of_prefix hK (fun j : Fin K => ⟨pick n V j.val, pick_lt (hlt j)⟩) ?_ ?_ ?_ i
  · rw [key]
  · intro a b hab
    have e : pick n V a.val = pick n V b.val := congrArg Fin.val hab
    rcases lt_trichotomy a.val b.val with h | h | h
    · exact absurd e (pick_fresh hV (hlt b) _ h)
    · exact Fin.ext h
    · exact absurd e.symm (pick_fresh hV (hlt a) _ h)
  · intro a b hab
    have h := pick_best hV (hlt a) (pick_lt (V := V) (hlt b)) fun j hj => pick_fresh hV (hlt b) j (hj.trans hab)
    show (decide (V (pick n V a.val) < V (pick n V b.val)) || (decide (V (pick n V b.val) = V (pick n V a.val)) && decide (pick n V b.val < pick n V a.val))) = false
    rcases h with h | ⟨h1, h2⟩
    · simp [not_lt.mpr h.le, h.ne]
    · simp [h1, h2]
  · intro a p hp
    have h := pick_best hV (hlt a) p.isLt fun j hj e => hp ⟨j, hj.trans a.isLt⟩ (Fin.ext e)
    show (decide (V (pick n V a.val) < V p.val) || (decide (V p.val = V (pick n V a.val)) && decide (p.val < pick n V a.val))) = false
    rcases h with h | ⟨h1, h2⟩
    · simp [not_lt.mpr h.le, h.ne]
    · simp [h1, h2]

end Cert.Proof

end
-- ==== Proof.Grid.lean ====
/-
  Rank-two blocks read at an index: a window of whole rows and a put of whole rows; the block of scores as one row of
  numbers, and its chunks of 80 rows.
-/
module

public import proofs.«01_k».proof.Proof.Tallies
public import proofs.«01_k».proof.Proof.Picks

@[expose] public section

set_option maxRecDepth 16384

noncomputable section

namespace Cert.Proof

open Cert.KernelIdeal Cert.KernelIdeal.Gen
open Idealize.ShloMosaic Idealize.ShloMosaic.TcCoe

section Rows
variable {α : Type} {H n h : ℕ}

/-- Two indices with the same coordinates are one. -/
theorem idx2_ext {a b : ℕ} (i j : (⟨2, ![a, b]⟩ : Shape).Idx) (h0 : (i 0).val = (j 0).val) (h1 : (i 1).val = (j 1).val) : i = j := by
  funext d
  match d with
  | ⟨0, _⟩ => exact Fin.ext h0
  | ⟨1, _⟩ => exact Fin.ext h1

/-- A window of whole rows from row `r` on. -/
theorem window_rows (x : (⟨2, ![H, n]⟩ : Shape).Idx → α) (off : Fin 2 → ℕ) (r : ℕ) (hoff : off = ![r, 0])
    (inb : ∀ a, off a + (![h, n] : Fin 2 → ℕ) a ≤ (⟨2, ![H, n]⟩ : Shape).size a) (y : (⟨2, ![h, n]⟩ : Shape).Idx)
    (i : (⟨2, ![H, n]⟩ : Shape).Idx) (h0 : (i 0).val = r + (y 0).val) (h1 : (i 1).val = (y 1).val) :
    VecWindow.window x off ![h, n] inb y = x i := by
  subst hoff
  refine congrArg x (idx2_ext _ _ ?_ ?_)
  · show r + 1 * (y 0).val = _; omega
  · show 0 + 1 * (y 1).val = _; omega

/-- A put of whole rows, at a row it writes. -/
theorem put_rows_in (x : (⟨2, ![H, n]⟩ : Shape).Idx → α) (off : Fin 2 → ℕ) (r : ℕ) (hoff : off = ![r, 0])
    (w : (⟨2, ![h, n]⟩ : Shape).Idx → α) (y : (⟨2, ![h, n]⟩ : Shape).Idx)
    (i : (⟨2, ![H, n]⟩ : Shape).Idx) (h0 : (i 0).val = r + (y 0).val) (h1 : (i 1).val = (y 1).val) :
    VecWindow.put x off ![h, n] w i = w y := by
  subst hoff
  have hy : (y 0).val < h := (y 0).isLt
  have hi : (i 1).val < n := (i 1).isLt
  have hm : ∀ a, (![r, 0] : Fin 2 → ℕ) a ≤ (i a).val ∧ (i a).val < (![r, 0] : Fin 2 → ℕ) a + (![h, n] : Fin 2 → ℕ) a := fun a => by
    match a with
    | ⟨0, _⟩ => show r ≤ (i 0).val ∧ (i 0).val < r + h; omega
    | ⟨1, _⟩ => show 0 ≤ (i 1).val ∧ (i 1).val < 0 + n; omega
  unfold VecWindow.put
  rw [dif_pos hm]
  refine congrArg w (funext fun d => ?_)
  match d with
  | ⟨0, _⟩ => exact Fin.ext (by show (i 0).val - r = (y 0).val; omega)
  | ⟨1, _⟩ => exact Fin.ext (by show (i 1).val - 0 = (y 1).val; omega)

/-- A put of whole rows, at a row it leaves. -/
theorem put_rows_out (x : (⟨2, ![H, n]⟩ : Shape).Idx → α) (off : Fin 2 → ℕ) (r : ℕ) (hoff : off = ![r, 0])
    (w : (⟨2, ![h, n]⟩ : Shape).Idx → α) (i : (⟨2, ![H, n]⟩ : Shape).Idx) (h0 : (i 0).val < r ∨ r + h ≤ (i 0).val) :
    VecWindow.put x off ![h, n] w i = x i := by
  subst hoff
  have hm : ¬ ∀ a, (![r, 0] : Fin 2 → ℕ) a ≤ (i a).val ∧ (i a).val < (![r, 0] : Fin 2 → ℕ) a + (![h, n] : Fin 2 → ℕ) a := fun hall => by
    have := hall 0
    change r ≤ (i 0).val ∧ (i 0).val < r + h at this
    omega
  unfold VecWindow.put
  rw [dif_neg hm]

end Rows

/-! ## The scores as one row -/

/-- The index of position `p` in the block: row `p / 91`, column `p % 91`. -/
abbrev at91 (p : ℕ) (hp : p < 1820000) : S20000x91.Idx := ix2 (⟨p / 91, by omega⟩ : Fin 20000) (⟨p % 91, by omega⟩ : Fin 91)

/-- A block read as one row of numbers. -/
def flat (x : S20000x91.Idx → EReal) (p : ℕ) : EReal := if hp : p < 1820000 then x (at91 p hp) else 0

theorem flat_of_lt (x : S20000x91.Idx → EReal) {p : ℕ} (hp : p < 1820000) : flat x p = x (at91 p hp) := dif_pos hp

theorem flat_idx (x : S20000x91.Idx → EReal) (i : S20000x91.Idx) : flat x ((i 0).val * 91 + (i 1).val) = x i := by
  have h0 : (i 0).val < 20000 := (i 0).isLt
  have h1 : (i 1).val < 91 := (i 1).isLt
  rw [flat_of_lt x (by omega)]
  refine congrArg x (idx2_ext _ _ ?_ ?_)
  · show ((i 0).val * 91 + (i 1).val) / 91 = _; omega
  · show ((i 0).val * 91 + (i 1).val) % 91 = _; omega

/-- `m` is the greatest of the numbers of chunk `c`: positions `7280 c` to `7280 c + 7279`. -/
def ChunkTop (W : ℕ → EReal) (c : ℕ) (m : EReal) : Prop :=
  (∀ p, 7280 * c ≤ p → p < 7280 * c + 7280 → W p ≤ m) ∧ ∃ p, 7280 * c ≤ p ∧ p < 7280 * c + 7280 ∧ W p = m

/-- The greatest of a window of 80 rows is the greatest of the chunk. -/
theorem chunkTop_of_isTop {W : ℕ → EReal} {c : ℕ} {m : EReal} {v : S80x91.Idx → EReal} (hm : IsTop v m)
    (hv : ∀ y : S80x91.Idx, v y = W (7280 * c + (y 0).val * 91 + (y 1).val)) : ChunkTop W c m := by
  refine ⟨fun p h1 h2 => ?_, ?_⟩
  · have := hm.1 (ix2 (⟨(p - 7280 * c) / 91, by omega⟩ : Fin 80) (⟨(p - 7280 * c) % 91, by omega⟩ : Fin 91))
    rw [hv] at this
    change W (7280 * c + (p - 7280 * c) / 91 * 91 + (p - 7280 * c) % 91) ≤ m at this
    rwa [show 7280 * c + (p - 7280 * c) / 91 * 91 + (p - 7280 * c) % 91 = p by omega] at this
  · obtain ⟨y, hy⟩ := hm.2
    have h0 : (y 0).val < 80 := (y 0).isLt
    have h1 : (y 1).val < 91 := (y 1).isLt
    exact ⟨7280 * c + (y 0).val * 91 + (y 1).val, by omega, by omega, by rw [← hv, hy]⟩

/-- The greatest of a chunk depends on the chunk alone. -/
theorem ChunkTop.congr {W W' : ℕ → EReal} {c : ℕ} {m : EReal} (h : ChunkTop W c m)
    (e : ∀ p, 7280 * c ≤ p → p < 7280 * c + 7280 → W' p = W p) : ChunkTop W' c m := by
  refine ⟨fun p h1 h2 => by rw [e p h1 h2]; exact h.1 p h1 h2, ?_⟩
  obtain ⟨p, h1, h2, h3⟩ := h.2
  exact ⟨p, h1, h2, by rw [e p h1 h2, h3]⟩

end Cert.Proof

end
-- ==== Proof.Payloads.lean ====
/-
  The values the second loop forms on a trip, over the extended reals: the best score left, its chunk, its place, the
  greatest of the chunk once it is struck out, and the numbers of its box.
-/
module

public import proofs.«01_k».proof.Proof.Grid

@[expose] public section

set_option maxRecDepth 16384

noncomputable section

namespace Cert.Proof

open Cert.KernelIdeal Cert.KernelIdeal.Gen
open Idealize.ShloMosaic Idealize.ShloMosaic.TcCoe

section AnyFloat
variable {F : FTy → Type} [FloatOps F]

/-- The chunk numbers where a chunk's greatest is the best score left, and the largest word elsewhere. -/
def chunkMask (cm : FVec F S2x128 .f32) : IVec S2x128 32 :=
  select (cmpf .oeq cm (broadcast S2x128 (k0_pay2 cm))) (addi iR (muli (broadcast S2x128 2#32) iC)) (broadcast S2x128 2147483647#32)

theorem chunkMask_at (cm : FVec F S2x128 .f32) (i : S2x128.Idx) : chunkMask cm i
    = Scalar.select (FloatOps.cmpf (F := F) (φ := .f32) .oeq (cm i) (k0_pay2 cm)) (Scalar.addi (iR i) (Scalar.muli (nw 2) (iC i))) (2147483647#32) := rfl

/-- The places where a score of the chunk is the best score left, and the largest word elsewhere. -/
def placeMask (cm : FVec F S2x128 .f32) (ch : Vec F S80x91 .f32) : IVec S80x91 32 :=
  select (cmpf .oeq ch (broadcast S80x91 (k0_pay2 cm))) (k0_pay4 iR iC iR80 iC80 cm) (broadcast S80x91 2147483647#32)

theorem placeMask_at (cm : FVec F S2x128 .f32) (ch : Vec F S80x91 .f32) (y : S80x91.Idx) : placeMask cm ch y
    = Scalar.select (FloatOps.cmpf (F := F) (φ := .f32) .oeq (ch y) (k0_pay2 cm)) (k0_pay4 iR iC iR80 iC80 cm y) (2147483647#32) := rfl

theorem pay3_eq (cm : FVec F S2x128 .f32) : chunkOf cm
    = extractAt ![0, 0, 0] (shapeCast S1x1x1 (multiReductionI .minsi [1, 2] S1 (shapeCast S1x2x128
        (chunkMask cm)
        shapeCasts_S2x128_S1x2x128) 2147483647#32 reduces_S1x2x128_S1 rfl) shapeCasts_S1_S1x1x1) inpos_S1x1x1_p0_0_0 := by
  show extractAt ![0, 0, 0] (k0_pay3 iR iC cm) inpos_S1x1x1_p0_0_0 = _
  unfold k0_pay3 chunkMask
  rfl

theorem pay4_eq (cm : FVec F S2x128 .f32) : k0_pay4 iR iC iR80 iC80 cm
    = addi (muli (addi (broadcast S80x91 (Scalar.muli (chunkOf cm) 80#32)) iR80) (broadcast S80x91 91#32)) iC80 := by
  unfold k0_pay4
  rfl

theorem pay5_eq (cm : FVec F S2x128 .f32) (ch : Vec F S80x91 .f32) : placeOf cm ch
    = extractAt ![0, 0, 0] (shapeCast S1x1x1 (multiReductionI .minsi [1, 2] S1 (shapeCast S1x80x91
        (placeMask cm ch)
        shapeCasts_S80x91_S1x80x91) 2147483647#32 reduces_S1x80x91_S1 rfl) shapeCasts_S1_S1x1x1) inpos_S1x1x1_p0_0_0 := by
  show extractAt ![0, 0, 0] (k0_pay5 iR iC iR80 iC80 cm ch) inpos_S1x1x1_p0_0_0 = _
  unfold k0_pay5 placeMask
  rfl

theorem pay9_eq (ch : Vec F S80x91 .f32) (ix : IVec S80x91 32) (v : BitVec 32) : k0_pay9 ch ix v
    = extractAt ![0, 0, 0] (shapeCast S1x1x1 (multiReduction .maximumf [1, 2] S1 (shapeCast S1x80x91
        (select (cmpi .eq ix (broadcast S80x91 v)) (broadcast S80x91 (Scalar.ofBits .f32 0xBF800000#32)) ch)
        shapeCasts_S80x91_S1x80x91) 0xFF800000#32 reduces_S1x80x91_S1 (.inl rfl) rfl) shapeCasts_S1_S1x1x1) inpos_S1x1x1_p0_0_0 := by
  unfold k0_pay9
  rfl

/-- The sum of a slab of boxes masked to one row and one lane. -/
def masked (L : BitVec 32) (bx : Vec F S8x128 .f32) (R : IVec S8x128 32) (q : BitVec 32) : F .f32 :=
  extractAt ![0, 0, 0] (shapeCast S1x1x1 (multiReduction .add [1, 2] S1 (shapeCast S1x8x128
      (select (andi (cmpi .eq jR8 R) (cmpi .eq jC8 (broadcast S8x128 (Scalar.addi L q)))) bx (broadcast S8x128 (Scalar.ofBits .f32 0x00000000#32)))
      shapeCasts_S8x128_S1x8x128) 0x00000000#32 reduces_S1x8x128_S1 (.inl rfl) rfl) shapeCasts_S1_S1x1x1) inpos_S1x1x1_p0_0_0

theorem pay16_eq (L : BitVec 32) (bx : Vec F S8x128 .f32) (R : IVec S8x128 32) : k0_pay16 jR8 jC8 L bx R = masked L bx R 0#32 := by
  unfold k0_pay16 masked; rfl
theorem pay17_eq (L : BitVec 32) (bx : Vec F S8x128 .f32) (R : IVec S8x128 32) : k0_pay17 jR8 jC8 L bx R = masked L bx R 1#32 := by
  unfold k0_pay17 masked; rfl
theorem pay18_eq (L : BitVec 32) (bx : Vec F S8x128 .f32) (R : IVec S8x128 32) : k0_pay18 jR8 jC8 L bx R = masked L bx R 2#32 := by
  unfold k0_pay18 masked; rfl
theorem pay19_eq (L : BitVec 32) (bx : Vec F S8x128 .f32) (R : IVec S8x128 32) : k0_pay19 jR8 jC8 L bx R = masked L bx R 3#32 := by
  unfold k0_pay19 masked; rfl

/-! The rows the trips fill, at a lane. -/

theorem pay7_at (k : ℕ) (hk : k < 128) (a : FVec F S1x128 .f32) (m : F .f32) (i : S1x128.Idx) :
    k0_pay7 iK a (Scf.iv 0#32 1#32 k) m i = if (i 1).val = k then m else a i := by
  have e : k0_pay7 iK a (Scf.iv 0#32 1#32 k) m i = Scalar.select (k0_pay6 iK (Scf.iv 0#32 1#32 k) i) m (a i) := rfl
  rw [e, pay6_at k hk, select_if]

theorem pay8_at (k : ℕ) (hk : k < 128) (a : IVec S1x128 32) (v : BitVec 32) (i : S1x128.Idx) :
    k0_pay8 iK a (Scf.iv 0#32 1#32 k) v 91#32 (Scalar.divsi v 91#32) (Scalar.subi (Scalar.extui (Scalar.cmpi .sgt v 0#32)) (Scalar.extui (Scalar.cmpi .slt v 0#32)))
      (Scalar.extui (Scalar.cmpi .sgt (91#32 : BitVec 32) 0#32)) 0#32 i = if (i 1).val = k then colOf v else a i := by
  have e : k0_pay8 iK a (Scf.iv 0#32 1#32 k) v 91#32 (Scalar.divsi v 91#32) (Scalar.subi (Scalar.extui (Scalar.cmpi .sgt v 0#32)) (Scalar.extui (Scalar.cmpi .slt v 0#32)))
      (Scalar.extui (Scalar.cmpi .sgt (91#32 : BitVec 32) 0#32)) 0#32 i = Scalar.select (k0_pay6 iK (Scf.iv 0#32 1#32 k) i) (colOf v) (a i) := rfl
  rw [e, pay6_at k hk, select_if]

/-- The near and far edges of a box: the centre less, or plus, half the extent, scaled. -/
def near (c e z : F .f32) : F .f32 := Scalar.mulf (Scalar.subf c (Scalar.mulf (Scalar.ofBits .f32 0x3F000000#32) e)) z
def far (c e z : F .f32) : F .f32 := Scalar.mulf (Scalar.addf c (Scalar.mulf (Scalar.ofBits .f32 0x3F000000#32) e)) z

theorem pay20_at (k : ℕ) (hk : k < 128) (z : Elt F .f32) (a : FVec F S1x128 .f32) (L : BitVec 32) (bx : Vec F S8x128 .f32) (R : IVec S8x128 32) (i : S1x128.Idx) :
    k0_pay20 z jR8 jC8 a (k0_pay6 iK (Scf.iv 0#32 1#32 k)) L bx R i
      = if (i 1).val = k then near (masked L bx R 0#32) (masked L bx R 2#32) z else a i := by
  have e : k0_pay20 z jR8 jC8 a (k0_pay6 iK (Scf.iv 0#32 1#32 k)) L bx R i = Scalar.select (k0_pay6 iK (Scf.iv 0#32 1#32 k) i)
      (near (k0_pay16 jR8 jC8 L bx R) (k0_pay18 jR8 jC8 L bx R) z) (a i) := rfl
  rw [e, pay6_at k hk, select_if, pay16_eq, pay18_eq]

theorem pay27_at (k : ℕ) (hk : k < 128) (z : Elt F .f32) (a : FVec F S1x128 .f32) (x y : F .f32) (i : S1x128.Idx) :
    k0_pay27 z a (k0_pay6 iK (Scf.iv 0#32 1#32 k)) x y (Scalar.ofBits .f32 0x3F000000#32) i = if (i 1).val = k then near x y z else a i := by
  have e : k0_pay27 z a (k0_pay6 iK (Scf.iv 0#32 1#32 k)) x y (Scalar.ofBits .f32 0x3F000000#32) i
      = Scalar.select (k0_pay6 iK (Scf.iv 0#32 1#32 k) i) (near x y z) (a i) := rfl
  rw [e, pay6_at k hk, select_if]

theorem pay28_at (k : ℕ) (hk : k < 128) (z : Elt F .f32) (a : FVec F S1x128 .f32) (x y : F .f32) (i : S1x128.Idx) :
    k0_pay28 z a (k0_pay6 iK (Scf.iv 0#32 1#32 k)) x y i = if (i 1).val = k then far x y z else a i := by
  have e : k0_pay28 z a (k0_pay6 iK (Scf.iv 0#32 1#32 k)) x y i
      = Scalar.select (k0_pay6 iK (Scf.iv 0#32 1#32 k) i) (far x y z) (a i) := rfl
  rw [e, pay6_at k hk, select_if]

theorem pay29_at (k : ℕ) (hk : k < 128) (z : Elt F .f32) (a : FVec F S1x128 .f32) (x y : F .f32) (i : S1x128.Idx) :
    k0_pay29 z a (k0_pay6 iK (Scf.iv 0#32 1#32 k)) x y i = if (i 1).val = k then far x y z else a i := by
  have e : k0_pay29 z a (k0_pay6 iK (Scf.iv 0#32 1#32 k)) x y i
      = Scalar.select (k0_pay6 iK (Scf.iv 0#32 1#32 k) i) (far x y z) (a i) := rfl
  rw [e, pay6_at k hk, select_if]

end AnyFloat

/-! ## Over the extended reals -/

theorem oeq_if (x y : EReal) : (FloatOps.cmpf (F := Ideal) (φ := .f32) .oeq x y) = BitVec.ofBool (decide (x = y)) := rfl

/-- The best score left. -/
theorem pay2_isTop (cm : FVec Ideal S2x128 .f32) : IsTop cm (k0_pay2 (F := Ideal) cm) := by
  haveI : Nonempty S2x128.Idx := ⟨ix2 (0 : Fin 2) (0 : Fin 128)⟩
  exact top_reduce cm shapeCasts_S2x128_S1x2x128 reduces_S1x2x128_S1 shapeCasts_S1_S1x1x1 inpos_S1x1x1_p0_0_0

/-- Its chunk is the first one whose greatest is the best score left. -/
theorem chunkOf_eq (cm : FVec Ideal S2x128 .f32) (i₀ : S2x128.Idx) (h : cm i₀ = k0_pay2 (F := Ideal) cm)
    (hmin : ∀ i, cm i = k0_pay2 (F := Ideal) cm → (i₀ 0).val + 2 * (i₀ 1).val ≤ (i 0).val + 2 * (i 1).val) :
    chunkOf (F := Ideal) cm = nw ((i₀ 0).val + 2 * (i₀ 1).val) := by
  rw [pay3_eq]
  have hv : ∀ i : S2x128.Idx, chunkMask (F := Ideal) cm i
      = if cm i = k0_pay2 (F := Ideal) cm then nw ((i 0).val + 2 * (i 1).val) else 2147483647#32 := fun i => by
    rw [chunkMask_at, oeq_if, select_if, iR_at, iC_at, nw_mul, nw_add]
  refine least_reduce _ shapeCasts_S2x128_S1x2x128 reduces_S1x2x128_S1 shapeCasts_S1_S1x1x1 inpos_S1x1x1_p0_0_0
    (fun i => cm i = k0_pay2 (F := Ideal) cm) (fun i => (i 0).val + 2 * (i 1).val) (fun i => ?_) (fun i hi => ?_) (fun i hi => ?_) i₀ h hmin
  · have h0 : (i 0).val < 2 := (i 0).isLt
    have h1 : (i 1).val < 128 := (i 1).isLt
    show (i 0).val + 2 * (i 1).val < 2147483647
    omega
  · rw [hv, if_pos hi]
  · rw [hv, if_neg hi]

theorem pay4_at (cm : FVec Ideal S2x128 .f32) (c : ℕ) (hc : chunkOf (F := Ideal) cm = nw c) (y : S80x91.Idx) :
    k0_pay4 (F := Ideal) iR iC iR80 iC80 cm y = nw (7280 * c + (y 0).val * 91 + (y 1).val) := by
  rw [pay4_eq]
  have e : addi (muli (addi (broadcast S80x91 (Scalar.muli (chunkOf (F := Ideal) cm) 80#32)) iR80) (broadcast S80x91 91#32)) iC80 y
      = Scalar.addi (Scalar.muli (Scalar.addi (Scalar.muli (chunkOf (F := Ideal) cm) (nw 80)) (iR80 y)) (nw 91)) (iC80 y) := rfl
  rw [e, hc, iR80_at, iC80_at, nw_mul, nw_add, nw_mul, nw_add]
  congr 1
  ring

/-- Its place is the first one of the chunk that holds it. -/
theorem placeOf_eq (cm : FVec Ideal S2x128 .f32) (ch : Vec Ideal S80x91 .f32) (c : ℕ) (hc250 : c < 250) (hc : chunkOf (F := Ideal) cm = nw c)
    (y₀ : S80x91.Idx) (h : ch y₀ = k0_pay2 (F := Ideal) cm)
    (hmin : ∀ y, ch y = k0_pay2 (F := Ideal) cm → 7280 * c + (y₀ 0).val * 91 + (y₀ 1).val ≤ 7280 * c + (y 0).val * 91 + (y 1).val) :
    placeOf (F := Ideal) cm ch = nw (7280 * c + (y₀ 0).val * 91 + (y₀ 1).val) := by
  rw [pay5_eq]
  have hv : ∀ y : S80x91.Idx, placeMask (F := Ideal) cm ch y
      = if ch y = k0_pay2 (F := Ideal) cm then nw (7280 * c + (y 0).val * 91 + (y 1).val) else 2147483647#32 := fun y => by
    rw [placeMask_at, oeq_if, select_if, pay4_at cm c hc]
  refine least_reduce _ shapeCasts_S80x91_S1x80x91 reduces_S1x80x91_S1 shapeCasts_S1_S1x1x1 inpos_S1x1x1_p0_0_0
    (fun y => ch y = k0_pay2 (F := Ideal) cm) (fun y => 7280 * c + (y 0).val * 91 + (y 1).val) (fun y => ?_) (fun y hy => ?_) (fun y hy => ?_) y₀ h hmin
  · have h0 : (y 0).val < 80 := (y 0).isLt
    have h1 : (y 1).val < 91 := (y 1).isLt
    show 7280 * c + (y 0).val * 91 + (y 1).val < 2147483647
    omega
  · rw [hv, if_pos hy]
  · rw [hv, if_neg hy]

/-- The greatest of the chunk once position `p` is struck out. -/
theorem pay9_isTop (cm : FVec Ideal S2x128 .f32) (ch : Vec Ideal S80x91 .f32) (c p : ℕ) (hc250 : c < 250) (hp : p < 1820000)
    (hc : chunkOf (F := Ideal) cm = nw c) :
    IsTop (fun y : S80x91.Idx => if 7280 * c + (y 0).val * 91 + (y 1).val = p then (-1 : EReal) else ch y)
      (k0_pay9 (F := Ideal) ch (k0_pay4 (F := Ideal) iR iC iR80 iC80 cm) (nw p)) := by
  haveI : Nonempty S80x91.Idx := ⟨ix2 (0 : Fin 80) (0 : Fin 91)⟩
  rw [pay9_eq]
  have ht := top_reduce (select (cmpi .eq (k0_pay4 (F := Ideal) iR iC iR80 iC80 cm) (broadcast S80x91 (nw p))) (broadcast S80x91 (Scalar.ofBits (F := Ideal) .f32 0xBF800000#32)) ch)
    shapeCasts_S80x91_S1x80x91 reduces_S1x80x91_S1 shapeCasts_S1_S1x1x1 inpos_S1x1x1_p0_0_0
  have ef : (select (cmpi .eq (k0_pay4 (F := Ideal) iR iC iR80 iC80 cm) (broadcast S80x91 (nw p))) (broadcast S80x91 (Scalar.ofBits (F := Ideal) .f32 0xBF800000#32)) ch)
      = fun y : S80x91.Idx => if 7280 * c + (y 0).val * 91 + (y 1).val = p then (-1 : EReal) else ch y := by
    funext y
    have h0 : (y 0).val < 80 := (y 0).isLt
    have h1 : (y 1).val < 91 := (y 1).isLt
    have e : select (cmpi .eq (k0_pay4 (F := Ideal) iR iC iR80 iC80 cm) (broadcast S80x91 (nw p))) (broadcast S80x91 (Scalar.ofBits (F := Ideal) .f32 0xBF800000#32)) ch y
      = Scalar.select (IntOp.cmpi .eq (k0_pay4 (F := Ideal) iR iC iR80 iC80 cm y) (nw p)) (Ideal.ofBits .f32 0xBF800000#32) (ch y) := rfl
    rw [e, pay4_at cm c hc, cmp_eq_nw (by omega) (by omega), select_if, negOne]
  rw [← ef]
  exact ht

/-- The sum of a slab masked to one entry is that entry. -/
theorem masked_eq (L R q : ℕ) (hR : R < 8) (hL : L + q < 128) (bx : Vec Ideal S8x128 .f32) (rows : IVec S8x128 32) (hr : ∀ i, rows i = nw R) :
    masked (F := Ideal) (nw L) bx rows (nw q) = bx (ix2 (⟨R, hR⟩ : Fin 8) (⟨L + q, hL⟩ : Fin 128)) := by
  unfold masked
  have hv : ∀ i : S8x128.Idx, select (andi (cmpi .eq jR8 rows) (cmpi .eq jC8 (broadcast S8x128 (Scalar.addi (nw L) (nw q))))) bx
        (broadcast S8x128 (Scalar.ofBits (F := Ideal) .f32 0x00000000#32)) i
      = if (i 0).val = R ∧ (i 1).val = L + q then bx i else (0 : EReal) := fun i => by
    have h0 : (i 0).val < 8 := (i 0).isLt
    have h1 : (i 1).val < 128 := (i 1).isLt
    have e : select (andi (cmpi .eq jR8 rows) (cmpi .eq jC8 (broadcast S8x128 (Scalar.addi (nw L) (nw q))))) bx
        (broadcast S8x128 (Scalar.ofBits (F := Ideal) .f32 0x00000000#32)) i
      = Scalar.select (IntOp.andi (IntOp.cmpi .eq (jR8 i) (rows i)) (IntOp.cmpi .eq (jC8 i) (Scalar.addi (nw L) (nw q)))) (bx i) (Ideal.ofBits .f32 0x00000000#32) := rfl
    rw [e, hr, jR8_at, jC8_at, nw_add, cmp_eq_nw (by omega) (by omega), cmp_eq_nw (by omega) (by omega), and_if, select_if]
    have z : (Ideal.ofBits .f32 0x00000000#32 : EReal) = 0 := by simp [Ideal.ofBits, Ideal.ieee]
    rw [z]
  refine (sum_reduce _ shapeCasts_S8x128_S1x8x128 reduces_S1x8x128_S1 shapeCasts_S1_S1x1x1 inpos_S1x1x1_p0_0_0
    (ix2 (⟨R, hR⟩ : Fin 8) (⟨L + q, hL⟩ : Fin 128)) fun i hi => ?_).trans ?_
  · rw [hv, if_neg]
    rintro ⟨e0, e1⟩
    exact hi (idx2_ext _ _ e0 e1)
  · rw [hv]
    exact if_pos ⟨rfl, rfl⟩

end Cert.Proof

end
-- ==== Proof.Scores.lean ====
/-
  What the first loop leaves, over the extended reals: the block of scores, and the greatest score of each chunk of 80 rows
  (the places of the chunk maxima that no chunk has hold -1).
-/
module

public import proofs.«01_k».proof.Proof.Grid

@[expose] public section

set_option maxRecDepth 16384

noncomputable section

namespace Cert.Proof

open Cert.KernelIdeal Cert.KernelIdeal.Gen
open Idealize.ShloMosaic Idealize.ShloMosaic.TcCoe

/-- The scores of a block of logits. -/
def scores (X : S20000x91.Idx → EReal) : S20000x91.Idx → EReal := fun i => Ideal.logistic (X i)

theorem logistic_nonneg (x : EReal) : 0 ≤ Ideal.logistic x := by
  induction x with
  | bot => rw [Ideal.logistic_bot]
  | top => rw [Ideal.logistic_top]; exact zero_le_one
  | coe r =>
    rw [Ideal.logistic_coe, ← EReal.coe_zero, EReal.coe_le_coe_iff]
    positivity

theorem flat_scores_nonneg (X : S20000x91.Idx → EReal) (p : ℕ) : 0 ≤ flat (scores X) p := by
  unfold flat
  split
  · exact logistic_nonneg _
  · exact le_rfl

theorem pay23_at (w : Vec Ideal S160x91 .f32) (y : S160x91.Idx) : k0_pay23 (F := Ideal) w y = Ideal.logistic (w y) := by
  unfold k0_pay23
  exact shapeCast_apply _ _ y y rfl

/-- The greatest of a half of a slab's scores. -/
def halfTop {F : FTy → Type} [FloatOps F] (w : Vec F S160x91 .f32) (off : Fin 2 → ℕ) (hs : S160x91.Slices off S80x91) : F .f32 :=
  extractAt ![0, 0, 0] (shapeCast S1x1x1 (multiReduction .maximumf [1, 2] S1
    (shapeCast S1x80x91 (extractStridedSlice S80x91 off (k0_pay22 w) hs) shapeCasts_S80x91_S1x80x91) 0xFF800000#32 reduces_S1x80x91_S1 (.inl rfl) rfl)
    shapeCasts_S1_S1x1x1) inpos_S1x1x1_p0_0_0

/-- Index `y` of the half `r` of a slab. -/
abbrev halfIdx (r : ℕ) (hr : r < 2) (y : S80x91.Idx) : S160x91.Idx :=
  ix2 (⟨80 * r + (y 0).val, by
    have h1 : (y 0).val < 80 := (y 0).isLt
    omega⟩ : Fin 160) (y 1)

theorem halfTop_isTop (w : Vec Ideal S160x91 .f32) (r : ℕ) (hr : r < 2) (off : Fin 2 → ℕ) (hs : S160x91.Slices off S80x91)
    (hoff : off = ![80 * r, 0]) : IsTop (fun y : S80x91.Idx => Ideal.logistic (w (halfIdx r hr y))) (halfTop (F := Ideal) w off hs) := by
  haveI : Nonempty S80x91.Idx := ⟨ix2 (0 : Fin 80) (0 : Fin 91)⟩
  subst hoff
  have ht := top_reduce (extractStridedSlice S80x91 ![80 * r, 0] (k0_pay22 (F := Ideal) w) hs) shapeCasts_S80x91_S1x80x91
    reduces_S1x80x91_S1 shapeCasts_S1_S1x1x1 inpos_S1x1x1_p0_0_0
  have ef : (extractStridedSlice S80x91 ![80 * r, 0] (k0_pay22 (F := Ideal) w) hs) = fun y : S80x91.Idx => Ideal.logistic (w (halfIdx r hr y)) := by
    funext y
    refine congrArg (fun j => Ideal.logistic (w j)) (idx2_ext _ _ ?_ ?_)
    · rfl
    · show 0 + (y 1).val = (y 1).val; rw [Nat.zero_add]
  rw [← ef]
  exact ht

theorem pay24_eq {F : FTy → Type} [FloatOps F] (k : Fin k0_t1_loop.trips) (cm : FVec F S2x128 .f32) (w : Vec F S160x91 .f32) :
    k0_pay24 k cm w = select (cmpi .eq iC (broadcast S2x128 (Scf.iv 0#32 1#32 k)))
      (select (cmpi .eq iR (broadcast S2x128 0#32)) (broadcast S2x128 (halfTop w ![0, 0] slices_S160x91_o0_0_S80x91))
        (broadcast S2x128 (halfTop w ![80, 0] slices_S160x91_o80_0_S80x91))) cm := by
  unfold k0_pay24 halfTop
  rfl

theorem pay24_apply (k : Fin k0_t1_loop.trips) (cm : FVec Ideal S2x128 .f32) (w : Vec Ideal S160x91 .f32) (i : S2x128.Idx) :
    k0_pay24 (F := Ideal) k cm w i = Scalar.select (IntOp.cmpi .eq (iC i) (Scf.iv 0#32 1#32 k))
      (Scalar.select (IntOp.cmpi .eq (iR i) (nw 0)) (halfTop w ![0, 0] slices_S160x91_o0_0_S80x91) (halfTop w ![80, 0] slices_S160x91_o80_0_S80x91)) (cm i) := by
  rw [pay24_eq]
  simp only [WordCmp.select_at, WordCmp.cmpi_at, WordCmp.broadcast_at]

/-- The chunk maxima after trip `k`: the two of the slab are set. -/
theorem pay24_at (k : Fin k0_t1_loop.trips) (cm : FVec Ideal S2x128 .f32) (w : Vec Ideal S160x91 .f32) (i : S2x128.Idx) :
    ((i 1).val = k.val → IsTop (fun y : S80x91.Idx => Ideal.logistic (w (halfIdx (i 0).val (i 0).isLt y))) (k0_pay24 (F := Ideal) k cm w i))
    ∧ ((i 1).val ≠ k.val → k0_pay24 (F := Ideal) k cm w i = cm i) := by
  have hk : k.val < 125 := k.isLt
  have h0 : (i 0).val < 2 := (i 0).isLt
  have h1 : (i 1).val < 128 := (i 1).isLt
  rw [pay24_apply, iC_at, iR_at, iv_nw, cmp_eq_nw (by omega) (by omega), cmp_eq_nw (by omega) (by omega), select_if, select_if]
  refine ⟨fun hik => ?_, fun hik => if_neg hik⟩
  rw [if_pos hik]
  by_cases hz : (i 0).val = 0
  · rw [if_pos hz]
    exact halfTop_isTop w _ _ _ _ (by rw [hz])
  · rw [if_neg hz]
    have : (i 0).val = 1 := by omega
    exact halfTop_isTop w _ _ _ _ (by rw [this])

/-- What holds before trip `k` of the first loop. -/
theorem run1_inv (X : Vec Ideal S20000x91 .f32) (k : ℕ) (hk : k ≤ 125) :
    (∀ i : S20000x91.Idx, (run1 (F := Ideal) X k).1 i = if (i 0).val < 160 * k then scores X i else X i)
    ∧ ∀ i : S2x128.Idx, ((i 1).val < k → ChunkTop (flat (scores X)) ((i 0).val + 2 * (i 1).val) ((run1 (F := Ideal) X k).2 i))
        ∧ (k ≤ (i 1).val → (run1 (F := Ideal) X k).2 i = (-1 : EReal)) := by
  induction k with
  | zero =>
    refine ⟨fun i => by rw [if_neg (by omega)]; rfl, fun i => ⟨fun h => absurd h (Nat.not_lt_zero _), fun _ => negOne⟩⟩
  | succ k ih =>
    obtain ⟨ih1, ih2⟩ := ih (by omega)
    have hkt : k < k0_t1_loop.trips := by
      have : k0_t1_loop.trips = 125 := by decide
      omega
    have e := run1_succ (F := Ideal) X ⟨k, hkt⟩
    change run1 X (k + 1) = trip1 ⟨k, hkt⟩ (run1 X k) at e
    rw [e]
    have hw : ∀ y : S160x91.Idx, VecWindow.window (run1 (F := Ideal) X k).1 (k0_off10 ⟨k, hkt⟩) S160x91.size (k0_off10_inb ⟨k, hkt⟩) y
        = X (ix2 (⟨160 * k + (y 0).val, by
          have h1 : (y 0).val < 160 := (y 0).isLt
          omega⟩ : Fin 20000) (y 1)) := fun y => by
      have hr := window_rows (h := 160) (run1 (F := Ideal) X k).1 (k0_off10 ⟨k, hkt⟩) (160 * k) (off10_nat ⟨k, hkt⟩) (k0_off10_inb ⟨k, hkt⟩) y
        (ix2 (⟨160 * k + (y 0).val, by
          have h1 : (y 0).val < 160 := (y 0).isLt
          omega⟩ : Fin 20000) (y 1)) rfl rfl
      rw [ih1, if_neg (by show ¬ 160 * k + (y 0).val < 160 * k; omega)] at hr
      exact hr
    refine ⟨fun i => ?_, fun i => ?_⟩
    · by_cases hin : 160 * k ≤ (i 0).val ∧ (i 0).val < 160 * k + 160
      · rw [if_pos (by omega)]
        refine (put_rows_in (h := 160) (run1 (F := Ideal) X k).1 (k0_off10 ⟨k, hkt⟩) (160 * k) (off10_nat ⟨k, hkt⟩) _
          (ix2 (⟨(i 0).val - 160 * k, by omega⟩ : Fin 160) (i 1)) i ?_ rfl).trans ?_
        · show (i 0).val = 160 * k + ((i 0).val - 160 * k); omega
        · rw [pay23_at, hw]
          refine congrArg (fun j => Ideal.logistic (X j)) (idx2_ext _ _ ?_ rfl)
          show 160 * k + ((i 0).val - 160 * k) = _; omega
      · refine (put_rows_out (h := 160) (run1 (F := Ideal) X k).1 (k0_off10 ⟨k, hkt⟩) (160 * k) (off10_nat ⟨k, hkt⟩) _ i (by omega)).trans ?_
        rw [ih1]
        congr 1
        exact propext (by omega)
    · obtain ⟨p1, p2⟩ := pay24_at ⟨k, hkt⟩ (run1 (F := Ideal) X k).2
        (VecWindow.window (run1 (F := Ideal) X k).1 (k0_off10 ⟨k, hkt⟩) S160x91.size (k0_off10_inb ⟨k, hkt⟩)) i
      by_cases hik : (i 1).val = k
      · refine ⟨fun _ => chunkTop_of_isTop (p1 hik) fun y => ?_, fun h => by omega⟩
        have h0 : (i 0).val < 2 := (i 0).isLt
        have hy0 : (y 0).val < 80 := (y 0).isLt
        have hy1 : (y 1).val < 91 := (y 1).isLt
        show Ideal.logistic _ = _
        rw [hw]
        have := flat_idx (scores X) (ix2 (⟨160 * k + (80 * (i 0).val + (y 0).val), by omega⟩ : Fin 20000) (y 1))
        refine this.symm.trans (congrArg _ ?_)
        show (160 * k + (80 * (i 0).val + (y 0).val)) * 91 + (y 1).val = _
        rw [hik]; ring
      · rw [show (trip1 ⟨k, hkt⟩ (run1 (F := Ideal) X k)).2 i = (run1 (F := Ideal) X k).2 i from p2 hik]
        exact ⟨fun h => (ih2 i).1 (by omega), fun h => (ih2 i).2 (by omega)⟩

/-- What the first loop leaves. -/
theorem run1_done (X : Vec Ideal S20000x91 .f32) :
    (∀ i, (run1 (F := Ideal) X k0_t1_loop.trips).1 i = scores X i)
    ∧ ∀ i : S2x128.Idx, ((i 0).val + 2 * (i 1).val < 250 → ChunkTop (flat (scores X)) ((i 0).val + 2 * (i 1).val) ((run1 (F := Ideal) X k0_t1_loop.trips).2 i))
        ∧ (250 ≤ (i 0).val + 2 * (i 1).val → (run1 (F := Ideal) X k0_t1_loop.trips).2 i = (-1 : EReal)) := by
  have ht : k0_t1_loop.trips = 125 := by decide
  rw [ht]
  obtain ⟨h1, h2⟩ := run1_inv X 125 le_rfl
  refine ⟨fun i => ?_, fun i => ?_⟩
  · rw [h1, if_pos (show (i 0).val < 160 * 125 from (i 0).isLt)]
  · have h0 : (i 0).val < 2 := (i 0).isLt
    exact ⟨fun h => (h2 i).1 (by omega), fun h => (h2 i).2 (by omega)⟩

end Cert.Proof

end
-- ==== Proof.Found.lean ====
/-
  What the second loop finds, over the extended reals: before trip `k` the block holds the scores with the first `k` picks
  struck out, the chunk maxima are its chunks' maxima, and the rows carried hold the score, the label and the box of the
  picks before `k`. While the picks lie in the whole slabs of the boxes, every trip is in range.
-/
module

public import proofs.«01_k».proof.Proof.Payloads
public import proofs.«01_k».proof.Proof.Scores

@[expose] public section

set_option maxRecDepth 16384

noncomputable section

namespace Cert.Proof

open Cert.KernelIdeal Cert.KernelIdeal.Gen
open Idealize.ShloMosaic Idealize.ShloMosaic.TcCoe

/-- The block with the first `k` picks struck out, and its chunk maxima. -/
structure Good (V : ℕ → EReal) (k : ℕ) (s : St2 Ideal) : Prop where
  block : ∀ i : S20000x91.Idx, s.1 i = left 1820000 V k ((i 0).val * 91 + (i 1).val)
  tops : ∀ i : S2x128.Idx, (i 0).val + 2 * (i 1).val < 250 → ChunkTop (left 1820000 V k) ((i 0).val + 2 * (i 1).val) (s.2.1 i)
  rest : ∀ i : S2x128.Idx, 250 ≤ (i 0).val + 2 * (i 1).val → s.2.1 i = (-1 : EReal)

variable {V : ℕ → EReal} {k : ℕ} {s : St2 Ideal}

/-- The index of chunk `c` in the chunk maxima. -/
abbrev atChunk (c : ℕ) (hc : c < 250) : S2x128.Idx := ix2 (⟨c % 2, by omega⟩ : Fin 2) (⟨c / 2, by omega⟩ : Fin 128)

theorem Good.at_chunk (g : Good V k s) (c : ℕ) (hc : c < 250) : ChunkTop (left 1820000 V k) c (s.2.1 (atChunk c hc)) := by
  have e : ((atChunk c hc) 0).val + 2 * ((atChunk c hc) 1).val = c := by
    show c % 2 + 2 * (c / 2) = c; omega
  have := g.tops (atChunk c hc) (by rw [e]; exact hc)
  rwa [e] at this

/-- A chunk maximum that is the best score left belongs to a chunk holding it. -/
theorem Good.pay2_eq (hV : ∀ p < 1820000, 0 ≤ V p) (hk : k < 1820000) (g : Good V k s) :
    k0_pay2 (F := Ideal) s.2.1 = left 1820000 V k (pick 1820000 V k) := by
  have hb := pick_spec (V := V) hk
  have h0 := left_pick_nonneg hV hk
  have ht := pay2_isTop s.2.1
  have hp : pick 1820000 V k < 1820000 := hb.1
  refine le_antisymm ?_ ?_
  · obtain ⟨i, hi⟩ := ht.2
    rw [← hi]
    by_cases hc : (i 0).val + 2 * (i 1).val < 250
    · obtain ⟨q, -, h2, h3⟩ := (g.tops i hc).2
      rw [← h3]
      exact hb.2.1 q (by omega)
    · rw [g.rest i (not_lt.mp hc)]
      exact neg_one_lt_zero.le.trans h0
  · exact ((g.at_chunk (pick 1820000 V k / 7280) (by omega)).1 _ (by omega) (by omega)).trans (ht.1 _)

theorem Good.chunkOf_eq (hV : ∀ p < 1820000, 0 ≤ V p) (hk : k < 1820000) (g : Good V k s) :
    chunkOf (F := Ideal) s.2.1 = nw (pick 1820000 V k / 7280) := by
  have hb := pick_spec (V := V) hk
  have h0 := left_pick_nonneg hV hk
  have hp : pick 1820000 V k < 1820000 := hb.1
  have hc : pick 1820000 V k / 7280 < 250 := by omega
  have hm := g.pay2_eq hV hk
  have e : ((atChunk _ hc) 0).val + 2 * ((atChunk _ hc) 1).val = pick 1820000 V k / 7280 := by
    show pick 1820000 V k / 7280 % 2 + 2 * (pick 1820000 V k / 7280 / 2) = _; omega
  have := Cert.Proof.chunkOf_eq s.2.1 (atChunk _ hc) ?_ fun i hi => ?_
  · rwa [e] at this
  · refine le_antisymm ((pay2_isTop s.2.1).1 _) ?_
    rw [hm]
    exact (g.at_chunk _ hc).1 _ (by omega) (by omega)
  · rw [e]
    by_cases hi250 : (i 0).val + 2 * (i 1).val < 250
    · obtain ⟨q, h1, h2, h3⟩ := (g.tops i hi250).2
      have hq : pick 1820000 V k ≤ q := by
        by_contra hcon
        have := hb.2.2 q (not_le.mp hcon)
        rw [h3, hi, hm] at this
        exact lt_irrefl _ this
      omega
    · omega

/-- The chunk of the best score left, as the body reads it. -/
theorem Good.chunkAt_apply (hV : ∀ p < 1820000, 0 ≤ V p) (hk : k < 1820000) (g : Good V k s) (h1 : k0_chk1 (chunkOf (F := Ideal) s.2.1))
    (y : S80x91.Idx) : chunkAt s h1 y = left 1820000 V k (7280 * (pick 1820000 V k / 7280) + (y 0).val * 91 + (y 1).val) := by
  have hp : pick 1820000 V k < 1820000 := pick_lt hk
  have hy0 : (y 0).val < 80 := (y 0).isLt
  have hoff : k0_off12 (chunkOf (F := Ideal) s.2.1) = ![80 * (pick 1820000 V k / 7280), 0] := by
    rw [g.chunkOf_eq hV hk]; exact off12_nw (by omega)
  have e := window_rows (h := 80) s.1 _ _ hoff (k0_off12_inb _ h1) y
    (ix2 (⟨80 * (pick 1820000 V k / 7280) + (y 0).val, by omega⟩ : Fin 20000) (⟨(y 1).val, (y 1).isLt⟩ : Fin 91)) rfl rfl
  refine e.trans ((g.block _).trans (congrArg _ ?_))
  show (80 * (pick 1820000 V k / 7280) + (y 0).val) * 91 + (y 1).val = _
  ring

theorem Good.placeAt_eq (hV : ∀ p < 1820000, 0 ≤ V p) (hk : k < 1820000) (g : Good V k s) (h1 : k0_chk1 (chunkOf (F := Ideal) s.2.1)) :
    placeAt s h1 = nw (pick 1820000 V k) := by
  have hb := pick_spec (V := V) hk
  have hp : pick 1820000 V k < 1820000 := hb.1
  have hm := g.pay2_eq hV hk
  obtain ⟨p, hpp⟩ : ∃ p, p = pick 1820000 V k := ⟨_, rfl⟩
  have e : 7280 * (p / 7280) + (p % 7280 / 91) * 91 + p % 91 = p := by omega
  have hl : p % 7280 / 91 < 80 := by omega
  have := placeOf_eq s.2.1 (chunkAt s h1) (p / 7280) (by omega) (by rw [hpp]; exact g.chunkOf_eq hV hk)
    (ix2 (⟨p % 7280 / 91, hl⟩ : Fin 80) (⟨p % 91, by omega⟩ : Fin 91)) ?_ fun y hy => ?_
  · rw [← hpp]
    refine this.trans (congrArg nw ?_)
    exact e
  · rw [g.chunkAt_apply hV hk, hm, ← hpp]
    exact congrArg _ e
  · rw [g.chunkAt_apply hV hk, hm] at hy
    rw [← hpp] at hy hb
    have hq : p ≤ 7280 * (p / 7280) + (y 0).val * 91 + (y 1).val := by
      by_contra hcon
      have := hb.2.2 _ (not_le.mp hcon)
      rw [hy] at this
      exact lt_irrefl _ this
    refine le_trans (le_of_eq ?_) hq
    exact e

/-- A trip on a good state whose pick lies in the whole slabs is in range. -/
theorem Good.inRange (hV : ∀ p < 1820000, 0 ≤ V p) (hk : k < 1820000) (g : Good V k s) (hs : pick 1820000 V k < 1817088) : InRange s := by
  have h1 : k0_chk1 (chunkOf (F := Ideal) s.2.1) := by
    rw [g.chunkOf_eq hV hk]; exact chk1_nw (by omega)
  exact ⟨h1, by rw [g.placeAt_eq hV hk h1]; exact chk2_nw hs⟩

/-- Number `q` of the box of row `n`, in the block that holds 32 boxes to a row. -/
def boxNum (B : Vec Ideal S625x128 .f32) (n q : ℕ) : EReal :=
  if h : n / 32 < 625 ∧ n % 32 * 4 + q < 128 then B (ix2 (⟨n / 32, h.1⟩ : Fin 625) (⟨n % 32 * 4 + q, h.2⟩ : Fin 128)) else 0

section Trip
variable {B : Vec Ideal S625x128 .f32} {sh sw : EReal}

/-- The masked sums of a trip are the numbers of the pick's box. -/
theorem masked_box {p q : ℕ} (hp : p < 1817088) (hq : q < 4) {v : BitVec 32} (hv : v = nw p) (h2 : k0_chk2 v) :
    masked (F := Ideal) (laneOf (rowOf v)) (VecWindow.window B (k0_off17 v) S8x128.size (k0_off17_inb _ h2)) (slabRow (rowOf v)) (nw q)
      = boxNum B (p / 91) q := by
  have hr : rowOf v = nw (p / 91) := by rw [hv]; exact rowOf_nw (by omega)
  have hoff : k0_off17 v = ![p / 91 / 32 / 8 * 8, 0] := by rw [hv]; exact off17_nw (by omega)
  have hl : laneOf (nw (p / 91)) = nw (p / 91 % 32 * 4) := laneOf_nw (by omega)
  rw [hr, hl, masked_eq (p / 91 % 32 * 4) (p / 91 / 32 % 8) q (by omega) (by omega) _ _ (fun i => slabRow_nw (by omega) i)]
  rw [boxNum, dif_pos ⟨by omega, by omega⟩]
  refine window_rows (h := 8) B _ _ hoff (k0_off17_inb _ h2) _ _ ?_ rfl
  show p / 91 / 32 = p / 91 / 32 / 8 * 8 + p / 91 / 32 % 8
  omega

/-- What the rows carried hold at lane `j`: score, label and box of pick `j`. -/
structure Holds (V : ℕ → EReal) (B : Vec Ideal S625x128 .f32) (sh sw : EReal) (j : ℕ) (i : S1x128.Idx) (a : Acc Ideal) : Prop where
  score : a.2.1 i = V (pick 1820000 V j)
  label : a.2.2.1 i = nw (pick 1820000 V j % 91)
  left' : a.2.2.2.1 i = near (F := Ideal) (boxNum B (pick 1820000 V j / 91) 0) (boxNum B (pick 1820000 V j / 91) 2) sw
  top' : a.2.2.2.2.1 i = near (F := Ideal) (boxNum B (pick 1820000 V j / 91) 1) (boxNum B (pick 1820000 V j / 91) 3) sh
  right' : a.2.2.2.2.2.1 i = far (F := Ideal) (boxNum B (pick 1820000 V j / 91) 0) (boxNum B (pick 1820000 V j / 91) 2) sw
  bot' : a.2.2.2.2.2.2 i = far (F := Ideal) (boxNum B (pick 1820000 V j / 91) 1) (boxNum B (pick 1820000 V j / 91) 3) sh

/-- The block after a trip. -/
theorem Good.next (hV : ∀ p < 1820000, 0 ≤ V p) {k : Fin k0_t2_loop.trips} (hk : k.val < 1820000) (g : Good V k.val s) (hs : pick 1820000 V k.val < 1817088)
    (h1 : k0_chk1 (chunkOf (F := Ideal) s.2.1)) (h2 : k0_chk2 (placeAt s h1)) : Good V (k.val + 1) (trip2At B sh sw k s h1 h2) := by
  obtain ⟨p, hpp⟩ : ∃ p, p = pick 1820000 V k.val := ⟨_, rfl⟩
  have hv : placeAt s h1 = nw p := by rw [hpp]; exact g.placeAt_eq hV hk h1
  have hc : chunkOf (F := Ideal) s.2.1 = nw (p / 7280) := by rw [hpp]; exact g.chunkOf_eq hV hk
  have hp : p < 1817088 := by rw [hpp]; exact hs
  have hl : ∀ q, left 1820000 V (k.val + 1) q = if q = p then -1 else left 1820000 V k.val q := fun q => by rw [left_succ, hpp]
  have hcm : ∀ i : S2x128.Idx, (trip2At B sh sw k s h1 h2).2.1 i = if (i 0).val + 2 * (i 1).val = p / 7280
      then k0_pay9 (F := Ideal) (chunkAt s h1) (k0_pay4 (F := Ideal) iR iC iR80 iC80 s.2.1) (nw p) else s.2.1 i := fun i => by
    show k0_pay12 iR s.2.1 (k0_pay9 (F := Ideal) (chunkAt s h1) (k0_pay4 (F := Ideal) iR iC iR80 iC80 s.2.1) (placeAt s h1)) (k0_pay10 iC (chunkOf (F := Ideal) s.2.1)) (k0_pay11 (chunkOf (F := Ideal) s.2.1)) i = _
    rw [hc, hv]
    exact pay12_at (F := Ideal) (by omega) _ _ i
  refine ⟨fun i => ?_, fun i hi => ?_, fun i hi => ?_⟩
  · have hi0 : (i 0).val < 20000 := (i 0).isLt
    have hi1 : (i 1).val < 91 := (i 1).isLt
    have hoff : k0_off14 (placeAt s h1) = ![p / 91 / 8 * 8, 0] := by rw [hv]; exact off14_nw (by omega)
    have hr : rowOf (placeAt s h1) = nw (p / 91) := by rw [hv]; exact rowOf_nw (by omega)
    have hcol : colOf (placeAt s h1) = nw (p % 91) := by rw [hv]; exact colOf_nw (by omega)
    show VecWindow.put s.1 (k0_off14 (placeAt s h1)) ![8, 91]
        (k0_pay13 iR8 iC8 (rowOf (placeAt s h1)) (colOf (placeAt s h1)) (VecWindow.window s.1 (k0_off14 (placeAt s h1)) S8x91.size (k0_off14_inb _ h2))) i = _
    rw [hl]
    by_cases hin : (i 0).val < p / 91 / 8 * 8 ∨ p / 91 / 8 * 8 + 8 ≤ (i 0).val
    · rw [put_rows_out s.1 _ _ hoff _ i hin, if_neg (by omega)]
      exact g.block i
    · have hy : (i 0).val - p / 91 / 8 * 8 < 8 := by omega
      have e := put_rows_in (h := 8) s.1 _ _ hoff
        (k0_pay13 iR8 iC8 (rowOf (placeAt s h1)) (colOf (placeAt s h1)) (VecWindow.window s.1 (k0_off14 (placeAt s h1)) S8x91.size (k0_off14_inb _ h2)))
        (ix2 (⟨(i 0).val - p / 91 / 8 * 8, hy⟩ : Fin 8) (⟨(i 1).val, hi1⟩ : Fin 91)) i
        (by show (i 0).val = p / 91 / 8 * 8 + ((i 0).val - p / 91 / 8 * 8); omega) rfl
      refine e.trans ?_
      have ew := window_rows (h := 8) s.1 _ _ hoff (k0_off14_inb _ h2)
        (ix2 (⟨(i 0).val - p / 91 / 8 * 8, hy⟩ : Fin 8) (⟨(i 1).val, hi1⟩ : Fin 91)) i
        (by show (i 0).val = p / 91 / 8 * 8 + ((i 0).val - p / 91 / 8 * 8); omega) rfl
      rw [hr, hcol]
      refine (pay13_at (F := Ideal) (by omega) (by omega) _ _).trans ?_
      by_cases hpe : (i 0).val * 91 + (i 1).val = p
      · rw [if_pos hpe, if_pos ⟨by show (i 0).val - p / 91 / 8 * 8 = _; omega, by show (i 1).val = _; omega⟩]
        exact negOne
      · rw [if_neg hpe, if_neg]
        · exact ew.trans (g.block i)
        · rintro ⟨a, b⟩
          change (i 0).val - p / 91 / 8 * 8 = _ at a
          change (i 1).val = _ at b
          omega
  · rw [hcm]
    by_cases hic : (i 0).val + 2 * (i 1).val = p / 7280
    · rw [if_pos hic, hic]
      refine chunkTop_of_isTop (pay9_isTop s.2.1 (chunkAt s h1) (p / 7280) p (by omega) (by omega) hc) fun y => ?_
      rw [hl, g.chunkAt_apply hV hk, ← hpp]
    · rw [if_neg hic]
      refine (g.tops i hi).congr fun q a b => ?_
      rw [hl, if_neg (by omega)]
  · rw [hcm, if_neg (by omega)]
    exact g.rest i hi

/-- The rows carried after a trip: lane `k` holds the pick, the others stay. -/
theorem Good.holds (hV : ∀ p < 1820000, 0 ≤ V p) {k : Fin k0_t2_loop.trips} (hk : k.val < 128) (g : Good V k.val s) (hs : pick 1820000 V k.val < 1817088)
    (h1 : k0_chk1 (chunkOf (F := Ideal) s.2.1)) (h2 : k0_chk2 (placeAt s h1)) (j : ℕ) (i : S1x128.Idx) (hi : (i 1).val = j) (hj : j ≤ k.val)
    (hold : j < k.val → Holds V B sh sw j i s.2) : Holds V B sh sw j i (trip2At B sh sw k s h1 h2).2 := by
  have hkN : k.val < 1820000 := by omega
  have hv : placeAt s h1 = nw (pick 1820000 V k.val) := g.placeAt_eq hV hkN h1
  have e1 : (trip2At (F := Ideal) B sh sw k s h1 h2).2.2.1 i = _ := pay7_at (F := Ideal) k.val hk s.2.2.1 (k0_pay2 (F := Ideal) s.2.1) i
  have e2 : (trip2At (F := Ideal) B sh sw k s h1 h2).2.2.2.1 i = _ := pay8_at k.val hk s.2.2.2.1 (placeAt s h1) i
  have e3 : (trip2At (F := Ideal) B sh sw k s h1 h2).2.2.2.2.1 i = _ := pay20_at (F := Ideal) k.val hk sw s.2.2.2.2.1 (laneOf (rowOf (placeAt s h1))) (VecWindow.window B (k0_off17 (placeAt s h1)) S8x128.size (k0_off17_inb _ h2)) (slabRow (rowOf (placeAt s h1))) i
  have e4 : (trip2At (F := Ideal) B sh sw k s h1 h2).2.2.2.2.2.1 i = _ := pay27_at (F := Ideal) k.val hk sh s.2.2.2.2.2.1 (k0_pay17 jR8 jC8 (laneOf (rowOf (placeAt s h1))) (VecWindow.window B (k0_off17 (placeAt s h1)) S8x128.size (k0_off17_inb _ h2)) (slabRow (rowOf (placeAt s h1)))) (k0_pay19 jR8 jC8 (laneOf (rowOf (placeAt s h1))) (VecWindow.window B (k0_off17 (placeAt s h1)) S8x128.size (k0_off17_inb _ h2)) (slabRow (rowOf (placeAt s h1)))) i
  have e5 : (trip2At (F := Ideal) B sh sw k s h1 h2).2.2.2.2.2.2.1 i = _ := pay28_at (F := Ideal) k.val hk sw s.2.2.2.2.2.2.1 (k0_pay16 jR8 jC8 (laneOf (rowOf (placeAt s h1))) (VecWindow.window B (k0_off17 (placeAt s h1)) S8x128.size (k0_off17_inb _ h2)) (slabRow (rowOf (placeAt s h1)))) (k0_pay18 jR8 jC8 (laneOf (rowOf (placeAt s h1))) (VecWindow.window B (k0_off17 (placeAt s h1)) S8x128.size (k0_off17_inb _ h2)) (slabRow (rowOf (placeAt s h1)))) i
  have e6 : (trip2At (F := Ideal) B sh sw k s h1 h2).2.2.2.2.2.2.2 i = _ := pay29_at (F := Ideal) k.val hk sh s.2.2.2.2.2.2.2 (k0_pay17 jR8 jC8 (laneOf (rowOf (placeAt s h1))) (VecWindow.window B (k0_off17 (placeAt s h1)) S8x128.size (k0_off17_inb _ h2)) (slabRow (rowOf (placeAt s h1)))) (k0_pay19 jR8 jC8 (laneOf (rowOf (placeAt s h1))) (VecWindow.window B (k0_off17 (placeAt s h1)) S8x128.size (k0_off17_inb _ h2)) (slabRow (rowOf (placeAt s h1)))) i
  rw [pay17_eq, pay19_eq] at e4 e6
  rw [pay16_eq, pay18_eq] at e5
  have m0 := masked_box (B := B) (q := 0) hs (by omega) hv h2
  have m1 := masked_box (B := B) (q := 1) hs (by omega) hv h2
  have m2 := masked_box (B := B) (q := 2) hs (by omega) hv h2
  have m3 := masked_box (B := B) (q := 3) hs (by omega) hv h2
  change masked (F := Ideal) _ _ _ 0#32 = _ at m0
  change masked (F := Ideal) _ _ _ 1#32 = _ at m1
  change masked (F := Ideal) _ _ _ 2#32 = _ at m2
  change masked (F := Ideal) _ _ _ 3#32 = _ at m3
  rw [m0, m2] at e3 e5
  rw [m1, m3] at e4 e6
  rcases Nat.lt_or_ge j k.val with hlt | hge
  · have hne : (i 1).val ≠ k.val := by omega
    have ho := hold hlt
    rw [if_neg hne] at e1 e2 e3 e4 e5 e6
    exact ⟨e1.trans ho.score, e2.trans ho.label, e3.trans ho.left', e4.trans ho.top', e5.trans ho.right', e6.trans ho.bot'⟩
  · have hjk : j = k.val := by omega
    have heq : (i 1).val = k.val := by omega
    rw [if_pos heq] at e1 e2 e3 e4 e5 e6
    rw [hjk]
    refine ⟨e1.trans ?_, e2.trans ?_, e3, e4, e5, e6⟩
    · rw [g.pay2_eq hV hkN, left_pick hV hkN]
    · rw [hv]; exact colOf_nw (by omega)

end Trip

/-! ## The whole loop -/

theorem trips2 : k0_t2_loop.trips = 100 := by decide

section Loop
variable (X : Vec Ideal S20000x91 .f32) (B : Vec Ideal S625x128 .f32) (sh sw : EReal)

/-- The state before trip `k`. -/
def atTrip (k : ℕ) : St2 Ideal := run2 (F := Ideal) B sh sw (start2 (run1 X k0_t1_loop.trips)) k

theorem good_start : Good (flat (scores X)) 0 (atTrip X B sh sw 0) := by
  have h := run1_done X
  refine ⟨fun i => ?_, fun i hi => (h.2 i).1 hi, fun i hi => (h.2 i).2 hi⟩
  exact (h.1 i).trans (flat_idx (scores X) i).symm

theorem loop2_inv (hs : ∀ j < 100, pick 1820000 (flat (scores X)) j < 1817088) (k : ℕ) (hk : k ≤ 100) :
    Good (flat (scores X)) k (atTrip X B sh sw k)
      ∧ ∀ (j : ℕ) (i : S1x128.Idx), (i 1).val = j → j < k → Holds (flat (scores X)) B sh sw j i (atTrip X B sh sw k).2 := by
  have hV : ∀ p < 1820000, 0 ≤ flat (scores X) p := fun p _ => flat_scores_nonneg X p
  induction k with
  | zero => exact ⟨good_start X B sh sw, fun j i _ hj => absurd hj (Nat.not_lt_zero j)⟩
  | succ k ih =>
    obtain ⟨g, hold⟩ := ih (by omega)
    have hkt : k < k0_t2_loop.trips := by rw [trips2]; omega
    have hkN : k < 1820000 := by omega
    obtain ⟨h1, h2⟩ := g.inRange hV hkN (hs k (by omega))
    have e : atTrip X B sh sw (k + 1) = trip2At (F := Ideal) B sh sw ⟨k, hkt⟩ (atTrip X B sh sw k) h1 h2 :=
      (run2_succ (F := Ideal) B sh sw _ ⟨k, hkt⟩).trans (trip2_eq (F := Ideal) B sh sw ⟨k, hkt⟩ _ h1 h2)
    rw [e]
    refine ⟨Good.next (k := ⟨k, hkt⟩) hV hkN g (hs k (by omega)) h1 h2, fun j i hi hj => ?_⟩
    exact Good.holds (k := ⟨k, hkt⟩) hV (by show k < 128; omega) g (hs k (by omega)) h1 h2 j i hi (by show j ≤ k; omega) fun hlt => hold j i hi hlt

/-- Every trip is in range while the picks lie in the whole slabs. -/
theorem safe_of_picks (hs : ∀ j < 100, pick 1820000 (flat (scores X)) j < 1817088) :
    ∀ k < k0_t2_loop.trips, InRange (atTrip X B sh sw k) := fun k hk => by
  rw [trips2] at hk
  exact (loop2_inv X B sh sw hs k (by omega)).1.inRange (fun p _ => flat_scores_nonneg X p) (by omega) (hs k hk)

/-- The rows carried at the end. -/
theorem holds_end (hs : ∀ j < 100, pick 1820000 (flat (scores X)) j < 1817088) (j : ℕ) (hj : j < 100) (i : S1x128.Idx) (hi : (i 1).val = j) :
    Holds (flat (scores X)) B sh sw j i (atTrip X B sh sw k0_t2_loop.trips).2 := by
  rw [trips2]
  exact (loop2_inv X B sh sw hs 100 le_rfl).2 j i hi hj

end Loop

end Cert.Proof

end
-- ==== Proof.Inputs.lean ====
/-
  What a grid point reads, at an index of the program's arguments: an image's block of logits, its block of boxes, its two
  sizes; and the blocks a point writes, at an index of what the second loop leaves.
-/
module

public import proofs.«01_k».proof.Proof.Launch
public import proofs.«01_k».proof.Proof.Found

@[expose] public section

set_option maxRecDepth 16384

noncomputable section

namespace Cert.Proof

open Cert.KernelIdeal Cert.KernelIdeal.Gen
open Idealize.ShloMosaic Idealize.ShloMosaic.TcCoe

variable {F : FTy → Type} [FloatOps F]

section Read
variable (m : (ℓ : Loc nD τ sig) → Buf (Elt F) ℓ) (c : Dev nD)

/-! ## The arrays before the launch -/

/-- The boxes, 32 to a row. -/
theorem V_main_v0 : V m c main_v0 = shapeCast S16x625x128 (m ((c : Thread nD τ).loc main_arg1)) shapeCasts_S16x20000x4_S16x625x128 := by
  show StableHlo.after (List.flatten [hostOps0]) (fun b => m (c, b)) (Proc.devRef .tc main_v0) = _
  simp only [List.flatten_cons, List.flatten_nil, List.append_nil, hostOps0]
  after_results
  rfl

/-- The sizes as floats. -/
theorem V_main_v2 : V m c main_v2 = shapeCast S16x1x2 (sitofp (F := F) .f32 (m ((c : Thread nD τ).loc main_arg3))) shapeCasts_S16x2_S16x1x2 := by
  show StableHlo.after (List.flatten [hostOps0]) (fun b => m (c, b)) (Proc.devRef .tc main_v2) = _
  simp only [List.flatten_cons, List.flatten_nil, List.append_nil, hostOps0]
  after_results
  rfl

/-! ## A point's blocks -/

/-- Image `b`'s logits. -/
theorem logits_at (X : BufOf (F := F) c hbL) (b : Fin 16) (i : S20000x91.Idx) :
    logitsOf c X b i = (X : S16x20000x91.Idx → F .f32) (ix3 b (⟨(i 0).val, (i 0).isLt⟩ : Fin 20000) (⟨(i 1).val, (i 1).isLt⟩ : Fin 91)) := by
  have e : logitsOf c X b = shapeCast S20000x91 (hbL.view.readAt (Elt F) (Rect.unit (s := S16x20000x91) ![b.val, 0, 0] S1x20000x91.size (inb_blkL b)).toLoadRect X) squeezes_S1x20000x91_S20000x91.numel_eq := rfl
  rw [e, shapeCast_apply _ _ i (ix3 (0 : Fin 1) (⟨(i 0).val, (i 0).isLt⟩ : Fin 20000) (⟨(i 1).val, (i 1).isLt⟩ : Fin 91)) (by
    rw [Shape.rowMajor_val_three, Shape.rowMajor_val_two]
    show (0 * 20000 + (i 0).val) * 91 + (i 1).val = (i 0).val * 91 + (i 1).val
    omega)]
  refine congrArg (X : S16x20000x91.Idx → F .f32) (funext fun a => ?_)
  match a with
  | ⟨0, _⟩ => exact Fin.ext (by show b.val + 1 * 0 = b.val; omega)
  | ⟨1, _⟩ => exact Fin.ext (by show 0 + 1 * (i 0).val = (i 0).val; omega)
  | ⟨2, _⟩ => exact Fin.ext (by show 0 + 1 * (i 1).val = (i 1).val; omega)

/-- Image `b`'s boxes. -/
theorem boxes_row (B : BufOf (F := F) c hbB) (b : Fin 16) (i : S625x128.Idx) :
    boxesOf c B b i = (B : S16x625x128.Idx → F .f32) (ix3 b (⟨(i 0).val, (i 0).isLt⟩ : Fin 625) (⟨(i 1).val, (i 1).isLt⟩ : Fin 128)) := by
  have e : boxesOf c B b = shapeCast S625x128 (hbB.view.readAt (Elt F) (Rect.unit (s := S16x625x128) ![b.val, 0, 0] S1x625x128.size (inb_blkB b)).toLoadRect B) squeezes_S1x625x128_S625x128.numel_eq := rfl
  rw [e, shapeCast_apply _ _ i (ix3 (0 : Fin 1) (⟨(i 0).val, (i 0).isLt⟩ : Fin 625) (⟨(i 1).val, (i 1).isLt⟩ : Fin 128)) (by
    rw [Shape.rowMajor_val_three, Shape.rowMajor_val_two]
    show (0 * 625 + (i 0).val) * 128 + (i 1).val = (i 0).val * 128 + (i 1).val
    omega)]
  refine congrArg (B : S16x625x128.Idx → F .f32) (funext fun a => ?_)
  match a with
  | ⟨0, _⟩ => exact Fin.ext (by show b.val + 1 * 0 = b.val; omega)
  | ⟨1, _⟩ => exact Fin.ext (by show 0 + 1 * (i 0).val = (i 0).val; omega)
  | ⟨2, _⟩ => exact Fin.ext (by show 0 + 1 * (i 1).val = (i 1).val; omega)

/-- Number `q` of box `n` of image `b`. -/
theorem boxes_num (b : Fin 16) (n : Fin 20000) (q : Fin 4) (i : S625x128.Idx) (h0 : (i 0).val = n.val / 32) (h1 : (i 1).val = n.val % 32 * 4 + q.val) :
    boxesOf c (V m c main_v0) b i = (m ((c : Thread nD τ).loc main_arg1) : S16x20000x4.Idx → F .f32) (ix3 b n q) := by
  rw [boxes_row, V_main_v0]
  refine shapeCast_apply _ _ _ (ix3 b n q) ?_
  rw [Shape.rowMajor_val_three, Shape.rowMajor_val_three]
  show (b.val * 20000 + n.val) * 4 + q.val = (b.val * 625 + (i 0).val) * 128 + (i 1).val
  rw [h0, h1]
  omega

theorem index0 : ∀ t : Fin grid0.N, win0_0.index t 0 = t.val ∧ win0_0.index t 1 = 0 ∧ win0_0.index t 2 = 0 := by decide +kernel

/-- The sizes of the point's image. -/
theorem sizes_at (t : Fin cfg0.N) (j : Fin 2) : (iblk m c 0 t : Vec F S1x1x2 .f32) (ixA j)
    = FloatOps.sitofp (F := F) .f32 ((m ((c : Thread nD τ).loc main_arg3) : S16x2.Idx → BitVec 32) (ix2 (Ring.bk 16 t.val) j)) := by
  have ht : t.val < 16 := t.isLt.trans_eq N_0
  have hb : (Ring.bk 16 t.val).val = t.val := Ring.bk_val ht
  have hi := index0 t
  have e : (iblk m c 0 t : Vec F S1x1x2 .f32) (ixA j) = (V m c main_v2 : S16x1x2.Idx → F .f32) (ix3 (Ring.bk 16 t.val) (0 : Fin 1) j) := by
    unfold iblk
    rw [View.read_apply]
    refine congrArg (V m c main_v2 : S16x1x2.Idx → F .f32) (funext fun a => ?_)
    match a with
    | ⟨0, _⟩ => exact Fin.ext (by show win0_0.index t 0 * 1 + 1 * 0 = (Ring.bk 16 t.val).val; rw [hi.1, hb]; omega)
    | ⟨1, _⟩ => exact Fin.ext (by show win0_0.index t 1 * 1 + 1 * 0 = 0; rw [hi.2.1])
    | ⟨2, _⟩ => exact Fin.ext (by show win0_0.index t 2 * 2 + 1 * j.val = j.val; rw [hi.2.2]; omega)
  rw [e, V_main_v2]
  refine (shapeCast_apply _ _ _ (ix2 (Ring.bk 16 t.val) j) ?_).trans rfl
  rw [Shape.rowMajor_val_two, Shape.rowMajor_val_three]
  show (Ring.bk 16 t.val).val * 2 + j.val = ((Ring.bk 16 t.val).val * 1 + 0) * 2 + j.val
  omega

end Read

/-! ## The blocks written -/

/-- The lane of place `k` in the carried rows. -/
abbrev lane (k : ℕ) (hk : k < 100) : S1x128.Idx := ix2 (0 : Fin 1) (⟨k, by omega⟩ : Fin 128)

theorem first_lanes {α : Type} (v : S1x128.Idx → α) (h : S1x128.Slices ![0, 0] S1x100) (k : Fin 100) :
    extractStridedSlice S1x100 ![0, 0] v h (ix2 (0 : Fin 1) k) = v (lane k.val k.isLt) := by
  refine congrArg v (idx2_ext _ _ rfl ?_)
  show 0 + k.val = k.val
  omega

theorem cast3_at {α : Type} (v : S1x100.Idx → α) (h : S1x100.ShapeCasts S1x1x100) (j : S1x1x100.Idx) :
    shapeCast S1x1x100 v h j = v (ix2 (0 : Fin 1) (⟨(j 2).val, (j 2).isLt⟩ : Fin 100)) := by
  refine shapeCast_apply _ _ _ _ ?_
  have h0 : (j 0).val < 1 := (j 0).isLt
  have h1 : (j 1).val < 1 := (j 1).isLt
  rw [Shape.rowMajor_val_two, Shape.rowMajor_val_three]
  show 0 * 100 + (j 2).val = ((j 0).val * 1 + (j 1).val) * 100 + (j 2).val
  omega

theorem cast4_at {α : Type} (v : S1x100.Idx → α) (h : S1x100.ShapeCasts S1x1x1x100) (j : S1x1x1x100.Idx) :
    shapeCast S1x1x1x100 v h j = v (ix2 (0 : Fin 1) (⟨(j 3).val, (j 3).isLt⟩ : Fin 100)) := by
  refine shapeCast_apply _ _ _ _ ?_
  have h0 : (j 0).val < 1 := (j 0).isLt
  have h1 : (j 1).val < 1 := (j 1).isLt
  have h2 : (j 2).val < 1 := (j 2).isLt
  rw [Shape.rowMajor_val_two, Shape.rowMajor_val_four]
  show 0 * 100 + (j 3).val = (((j 0).val * 1 + (j 1).val) * 1 + (j 2).val) * 100 + (j 3).val
  omega

theorem outScores_at (s : St2 F) (j : S1x1x100.Idx) : outScores s j = s.2.2.1 (lane (j 2).val (j 2).isLt) :=
  (cast3_at _ _ j).trans (first_lanes _ _ _)
theorem outLabels_at (s : St2 F) (j : S1x1x100.Idx) : outLabels s j = s.2.2.2.1 (lane (j 2).val (j 2).isLt) :=
  (cast3_at _ _ j).trans (first_lanes _ _ _)

section Rows4
variable {α : Type}

/-- A row put into a block of four rows, at that row and at another. -/
theorem put_row_in (z : S1x1x4x100.Idx → α) (w : S1x1x1x100.Idx → α) (r : ℕ) (j : S1x1x4x100.Idx) (h : (j 2).val = r) :
    VecWindow.put z ![0, 0, r, 0] S1x1x1x100.size w j = w (ix4 (0 : Fin 1) (0 : Fin 1) (0 : Fin 1) (⟨(j 3).val, (j 3).isLt⟩ : Fin 100)) := by
  have h0 : (j 0).val < 1 := (j 0).isLt
  have h1 : (j 1).val < 1 := (j 1).isLt
  have h3 : (j 3).val < 100 := (j 3).isLt
  have hm : ∀ a : Fin 4, (![0, 0, r, 0] : Fin 4 → ℕ) a ≤ (j a).val ∧ (j a).val < (![0, 0, r, 0] : Fin 4 → ℕ) a + S1x1x1x100.size a := by
    intro a
    fin_cases a
    · exact ⟨Nat.zero_le _, show (j 0).val < 0 + 1 by omega⟩
    · exact ⟨Nat.zero_le _, show (j 1).val < 0 + 1 by omega⟩
    · exact ⟨h.ge, show (j 2).val < r + 1 by omega⟩
    · exact ⟨Nat.zero_le _, show (j 3).val < 0 + 100 by omega⟩
  unfold VecWindow.put
  rw [dif_pos hm]
  refine congrArg w (funext fun d => ?_)
  match d with
  | ⟨0, _⟩ => exact Fin.ext (by show (j 0).val - 0 = 0; omega)
  | ⟨1, _⟩ => exact Fin.ext (by show (j 1).val - 0 = 0; omega)
  | ⟨2, _⟩ => exact Fin.ext (by show (j 2).val - r = 0; omega)
  | ⟨3, _⟩ => exact Fin.ext (by show (j 3).val - 0 = (j 3).val; omega)

theorem put_row_out (z : S1x1x4x100.Idx → α) (w : S1x1x1x100.Idx → α) (r : ℕ) (j : S1x1x4x100.Idx) (h : (j 2).val ≠ r) :
    VecWindow.put z ![0, 0, r, 0] S1x1x1x100.size w j = z j := by
  have hm : ¬ ∀ a : Fin 4, (![0, 0, r, 0] : Fin 4 → ℕ) a ≤ (j a).val ∧ (j a).val < (![0, 0, r, 0] : Fin 4 → ℕ) a + S1x1x1x100.size a := fun hall => by
    have := hall 2
    change r ≤ (j 2).val ∧ (j 2).val < r + 1 at this
    omega
  unfold VecWindow.put
  rw [dif_neg hm]

end Rows4

theorem boxRows_at (r0 r1 r2 r3 : FVec F S1x1x1x100 .f32) (z : Vec F S1x1x4x100 .f32) (j : S1x1x4x100.Idx) (q : Fin 4) (hq : (j 2).val = q.val) :
    boxRows r0 r1 r2 r3 z j = ![r0, r1, r2, r3] q (ix4 (0 : Fin 1) (0 : Fin 1) (0 : Fin 1) (⟨(j 3).val, (j 3).isLt⟩ : Fin 100)) := by
  unfold boxRows
  fin_cases q
  · rw [put_row_out _ _ 3 j (by rw [hq]; decide), put_row_out _ _ 2 j (by rw [hq]; decide), put_row_out _ _ 1 j (by rw [hq]; decide), put_row_in _ _ 0 j hq]; rfl
  · rw [put_row_out _ _ 3 j (by rw [hq]; decide), put_row_out _ _ 2 j (by rw [hq]; decide), put_row_in _ _ 1 j hq]; rfl
  · rw [put_row_out _ _ 3 j (by rw [hq]; decide), put_row_in _ _ 2 j hq]; rfl
  · rw [put_row_in _ _ 3 j hq]; rfl

theorem row4_at {α : Type} (v : S1x128.Idx → α) (k : Fin 100) :
    shapeCast S1x1x1x100 (extractStridedSlice S1x100 ![0, 0] v slices_S1x128_o0_0_S1x100) shapeCasts_S1x100_S1x1x1x100 (ix4 (0 : Fin 1) (0 : Fin 1) (0 : Fin 1) k)
      = v (lane k.val k.isLt) := (cast4_at _ _ _).trans (first_lanes v _ k)

theorem outBoxes_at (s : St2 F) (z : Vec F S1x1x4x100 .f32) (j : S1x1x4x100.Idx) (q : Fin 4) (hq : (j 2).val = q.val) :
    outBoxes s z j = ![s.2.2.2.2.1, s.2.2.2.2.2.1, s.2.2.2.2.2.2.1, s.2.2.2.2.2.2.2] q (lane (j 3).val (j 3).isLt) := by
  rw [outBoxes, boxRows_at _ _ _ _ _ j q hq]
  fin_cases q
  all_goals exact row4_at _ (⟨(j 3).val, (j 3).isLt⟩ : Fin 100)

end Cert.Proof

end
-- ==== Proof.Top.lean ====
/-
  The host's top-k along the last axis of a two-axis array over the extended reals: at row `b`, place `k`, the value and
  the index of pick `k` of the row. And the logistic as the host spells it.
-/
module

public import proofs.«01_k».proof.Proof.Grid
public import Idealize.ShloMosaic.Lib.Pipeline.Value

@[expose] public section

set_option maxRecDepth 16384

noncomputable section

namespace Cert.Proof

open Idealize.ShloMosaic Idealize.ShloMosaic.TcCoe

section Row
variable {α : Type} {B N K : ℕ}

/-- Changing the last coordinate of an index. -/
theorem along_ix2 (j : (⟨2, ![B, N]⟩ : Shape).Idx) (k : Fin N) (b : Fin B) (hb : (j 0).val = b.val) :
    Shape.Idx.along j (1 : Fin 2) k = ix2 b k := by
  funext d
  match d with
  | ⟨0, _⟩ => exact (Function.update_of_ne (show (0 : Fin 2) ≠ 1 by decide) _ _).trans (Fin.ext hb)
  | ⟨1, _⟩ => exact Function.update_self _ _ _

/-- The order in which row `b` is taken. -/
def rowOrder (x : (⟨2, ![B, N]⟩ : Shape).Idx → α) (gt : α → α → BitVec 1) (b : Fin B) : Fin N → Fin N :=
  sortedFrom (fun p q : Fin N => gt (x (ix2 b p)) (x (ix2 b q)) == 1#1)

theorem topK_row (x : (⟨2, ![B, N]⟩ : Shape).Idx → α) (gt : α → α → BitVec 1)
    (h : (⟨2, ![B, N]⟩ : Shape).Slices (fun _ => 0) ⟨2, ![B, K]⟩) (hK : K ≤ N) (b : Fin B) (k : Fin K) :
    (Host.topK ⟨2, ![B, K]⟩ 1 gt x h).1 (ix2 b k) = x (ix2 b (rowOrder x gt b (k.castLE hK)))
      ∧ (Host.topK ⟨2, ![B, K]⟩ 1 gt x h).2 (ix2 b k) = nw (rowOrder x gt b (k.castLE hK)).val := by
  unfold Host.topK Host.sort2
  have hd : 1 < (⟨2, ![B, N]⟩ : Shape).rank := by show 1 < 2; omega
  simp only [dif_pos hd]
  -- the index the slices read
  let j : (⟨2, ![B, N]⟩ : Shape).Idx := ix2 b (k.castLE hK)
  have ej : (fun a => (⟨0 + ((ix2 b k : (⟨2, ![B, K]⟩ : Shape).Idx) (a.cast h.1.symm)).val, by
      match a with
      | ⟨0, _⟩ => show 0 + b.val < B; omega
      | ⟨1, _⟩ => show 0 + k.val < N; omega⟩ : Fin ((⟨2, ![B, N]⟩ : Shape).size a))) = j := by
    funext a
    match a with
    | ⟨0, _⟩ => exact Fin.ext (by show 0 + b.val = b.val; omega)
    | ⟨1, _⟩ => exact Fin.ext (by show 0 + k.val = k.val; omega)
  have e : ∀ q : Fin N, j.along (1 : Fin 2) q = ix2 b q := fun q => along_ix2 j q b rfl
  have eo : (sortedFrom fun p q : Fin N => gt (x (j.along (1 : Fin 2) p)) (x (j.along (1 : Fin 2) q)) == 1#1) (k.castLE hK)
      = rowOrder x gt b (k.castLE hK) := by
    unfold rowOrder
    simp only [e]
  constructor
  · unfold extractStridedSlice
    have := congrArg (fun j' : (⟨2, ![B, N]⟩ : Shape).Idx => x (j'.along (1 : Fin 2)
      ((sortedFrom fun p q : Fin N => gt (x (j'.along (1 : Fin 2) p)) (x (j'.along (1 : Fin 2) q)) == 1#1) (j' 1)))) ej
    refine this.trans ?_
    show x (j.along (1 : Fin 2) ((sortedFrom fun p q : Fin N => gt (x (j.along (1 : Fin 2) p)) (x (j.along (1 : Fin 2) q)) == 1#1) (k.castLE hK))) = _
    rw [eo, e]
  · unfold extractStridedSlice
    have := congrArg (fun j' : (⟨2, ![B, N]⟩ : Shape).Idx => iotaInDim ⟨2, ![B, N]⟩ 32 (1 : Fin 2) (j'.along (1 : Fin 2)
      ((sortedFrom fun p q : Fin N => gt (x (j'.along (1 : Fin 2) p)) (x (j'.along (1 : Fin 2) q)) == 1#1) (j' 1)))) ej
    refine this.trans ?_
    show iotaInDim ⟨2, ![B, N]⟩ 32 (1 : Fin 2) (j.along (1 : Fin 2) ((sortedFrom fun p q : Fin N => gt (x (j.along (1 : Fin 2) p)) (x (j.along (1 : Fin 2) q)) == 1#1) (k.castLE hK))) = _
    rw [eo, e]
    rfl

end Row

/-- Over the extended reals, a row whose values are `V`: place `k` holds pick `k`, its value and its index. -/
theorem topK_pick {B N K : ℕ} (x : (⟨2, ![B, N]⟩ : Shape).Idx → EReal) (V : ℕ → EReal)
    (h : (⟨2, ![B, N]⟩ : Shape).Slices (fun _ => 0) ⟨2, ![B, K]⟩) (hK : K ≤ N) (b : Fin B) (k : Fin K)
    (hx : ∀ p : Fin N, x (ix2 b p) = V p.val) (hV : ∀ p < N, 0 ≤ V p) :
    (Host.topK ⟨2, ![B, K]⟩ 1 (FloatOps.cmpfTotal (F := Ideal) (φ := .f32) .gt) x h).1 (ix2 b k) = V (pick N V k.val)
      ∧ (Host.topK ⟨2, ![B, K]⟩ 1 (FloatOps.cmpfTotal (F := Ideal) (φ := .f32) .gt) x h).2 (ix2 b k) = nw (pick N V k.val) := by
  have ho : (rowOrder x (FloatOps.cmpfTotal (F := Ideal) (φ := .f32) .gt) b (k.castLE hK)).val = pick N V k.val := by
    rw [← sortedFrom_eq_pick hV hK k]
    unfold rowOrder
    simp only [hx]
    rfl
  have ht := topK_row x (FloatOps.cmpfTotal (F := Ideal) (φ := .f32) .gt) h hK b k
  rw [hx, ho] at ht
  exact ht

/-! ## The logistic as the host spells it -/

section Host
variable {F : FTy → Type} [FloatOps F]

theorem hostLogistic_at {s : Shape} (hb : (⟨0, ![]⟩ : Shape).BroadcastsInDim s (![] : Fin 0 → Fin s.rank)) (x : FVec F s .f32) (i : s.Idx) :
    Host.divf (broadcastInDim s ![] hb (constant ⟨0, ![]⟩ .f32 0x3F800000#32)) (addf (broadcastInDim s ![] hb (constant ⟨0, ![]⟩ .f32 0x3F800000#32)) (Host.exp (Host.negf x))) i
      = FloatOps.hostDivf (FloatOps.ofBits .f32 0x3F800000#32) (FloatOps.addf (FloatOps.ofBits .f32 0x3F800000#32) (FloatOps.hostUnary .exp (FloatOps.hostNegf (x i)))) := rfl

end Host

theorem one_word : (FloatOps.ofBits (F := Ideal) .f32 0x3F800000#32 : EReal) = 1 := by
  show Ideal.ofBits .f32 0x3F800000#32 = 1
  simp [Ideal.ofBits, Ideal.ieee]
  rw [← EReal.coe_mul, ← EReal.coe_one, EReal.coe_eq_coe_iff]
  norm_num

theorem hostLogistic_ideal {s : Shape} (hb : (⟨0, ![]⟩ : Shape).BroadcastsInDim s (![] : Fin 0 → Fin s.rank)) (x : FVec Ideal s .f32) (i : s.Idx) :
    Host.divf (broadcastInDim s ![] hb (constant (F := Ideal) ⟨0, ![]⟩ .f32 0x3F800000#32)) (addf (broadcastInDim s ![] hb (constant (F := Ideal) ⟨0, ![]⟩ .f32 0x3F800000#32)) (Host.exp (Host.negf x))) i
      = Ideal.logistic (x i) := by
  refine (hostLogistic_at (F := Ideal) hb x i).trans ?_
  rw [one_word]
  rfl

end Cert.Proof

end
-- ==== Proof.RefValue.lean ====
/-
  What the reference returns, read at an index over the extended reals: for image `b` and place `k`, the score of pick `k`
  of the image's scores, its label, and the scaled corners of its box.
-/
module

public import proofs.«01_k».proof.Proof.Top
public import proofs.«01_k».proof.Proof.Payloads
public import proofs.«01_k».proof.Proof.Scores
public import proofs.«01_k».proof.Proof.Gen.ReferenceIdeal.Run
public import Idealize.ShloMosaic.Lib.Routing.Words

@[expose] public section

set_option maxRecDepth 16384

noncomputable section

namespace Cert.Proof

open Idealize.ShloMosaic Idealize.ShloMosaic.TcCoe

/-- Image `b` of a batch of logits. -/
def image (x : (⟨3, ![16, 20000, 91]⟩ : Shape).Idx → EReal) (b : Fin 16) : (⟨2, ![20000, 91]⟩ : Shape).Idx → EReal :=
  fun i => x (ix3 b (⟨(i 0).val, (i 0).isLt⟩ : Fin 20000) (⟨(i 1).val, (i 1).isLt⟩ : Fin 91))

/-- Image `b`'s scores in one row. -/
def rowScores (x : (⟨3, ![16, 20000, 91]⟩ : Shape).Idx → EReal) (b : Fin 16) : ℕ → EReal := flat (scores (image x b))

/-- Pick `k` of image `b`. -/
def pickOf (x : (⟨3, ![16, 20000, 91]⟩ : Shape).Idx → EReal) (b : Fin 16) (k : ℕ) : ℕ := pick 1820000 (rowScores x b) k

theorem pickOf_lt (x : (⟨3, ![16, 20000, 91]⟩ : Shape).Idx → EReal) (b : Fin 16) (k : Fin 100) : pickOf x b k.val < 1820000 :=
  pick_lt (by have := k.isLt; omega)

theorem toInt_nw {n : ℕ} (hn : n < 2 ^ 31) : (nw n).toInt = (n : ℤ) := by
  rw [BitVec.toInt_eq_toNat_of_lt (by rw [nw_toNat (by omega)]; omega), nw_toNat (by omega)]

namespace Ref

open Cert.ReferenceIdeal Cert.ReferenceIdeal.Gen

section AnyFloat
variable {F : FTy → Type} [FloatOps F]

/-- The scores of the batch, a row per image. -/
def probs (x : FVec F S16x20000x91 .f32) : FVec F S16x1820000 .f32 :=
  shapeCast S16x1820000 (Host.divf (broadcastInDim S16x20000x91 ![] bcast_S_S16x20000x91 (constant S_ .f32 0x3F800000#32)) (addf (broadcastInDim S16x20000x91 ![] bcast_S_S16x20000x91 (constant S_ .f32 0x3F800000#32)) (Host.exp (Host.negf x)))) shapeCasts_S16x20000x91_S16x1820000

/-- The indices of the hundred best. -/
def found (x : FVec F S16x20000x91 .f32) : IVec S16x100 32 := (Host.topK S16x100 1 (FloatOps.cmpfTotal .gt) (probs x) sliceFits_S16x1820000_S16x100).2

/-- The anchors' numbers, one for each of the four coordinates. -/
def spread (a : IVec S16x100 32) : IVec S16x100x4 32 :=
  broadcastInDim S16x100x4 ![0, 1, 2] bcast_S16x100x1_S16x100x4_0_1_2 (broadcastInDim S16x100x1 ![0, 1] bcast_S16x100_S16x100x1_0_1 a)

/-- The start indices of the gather: a negative number counts from the end. -/
def starts (a : IVec S16x100 32) : IVec S16x100x4x1 32 :=
  shapeCast S16x100x4x1 (select (cmpi .slt (spread a) (broadcastInDim S16x100x4 ![] bcast_S_S16x100x4 (constantI S_ 32 0#32)))
    (addi (spread a) (broadcastInDim S16x100x4 ![] bcast_S_S16x100x4 (constantI S_ 32 20000#32))) (spread a)) shapeCasts_S16x100x4_S16x100x4x1

/-- Which start indices are in range. -/
def within (t : IVec S16x100x4x1 32) : IVec S16x100x4 1 :=
  Host.reduce IntOp.andi (andi (cmpi .sge t (broadcastInDim S16x100x4x1 ![] bcast_S_S16x100x4x1 (constantI S_ 32 0#32)))
    (cmpi .sle t (broadcastInDim S16x100x4x1 ![0, 1, 2, 3] bcast_S1x1x1x1_S16x100x4x1_0_1_2_3 (broadcastInDim S1x1x1x1 ![3] bcast_S1_S1x1x1x1_3 (constantI S1 32 19999#32)))))
    (constantI S_ 1 1#1) reducesTo_S16x100x4x1_S16x100x4_d3 h_S_

/-- Coordinate `q` of the boxes, and half of it. -/
def part (y : FVec F S16x20000x4 .f32) (q : ℕ) (h : S16x20000x4.Slices ![0, 0, q] S16x20000x1) : FVec F S16x20000x1 .f32 :=
  extractStridedSlice S16x20000x1 ![0, 0, q] y h
def halved (y : FVec F S16x20000x4 .f32) (q : ℕ) (h : S16x20000x4.Slices ![0, 0, q] S16x20000x1) : FVec F S16x20000x1 .f32 :=
  mulf (broadcastInDim S16x20000x1 ![] bcast_S_S16x20000x1 (constant S_ .f32 0x3F000000#32)) (part y q h)

/-- Four columns of boxes, side by side. -/
def join (u0 u1 u2 u3 : FVec F S16x20000x1 .f32) : FVec F S16x20000x4 .f32 :=
  concatenate S16x20000x4 2 [⟨S16x20000x1, u0⟩, ⟨S16x20000x1, u1⟩, ⟨S16x20000x1, u2⟩, ⟨S16x20000x1, u3⟩] concatenates_S16x20000x1_S16x20000x1_S16x20000x1_S16x20000x1_S16x20000x4_d2

/-- The boxes' corners. -/
def corners (y : FVec F S16x20000x4 .f32) : FVec F S16x20000x4 .f32 :=
  join (subf (part y 0 slices_S16x20000x4_S16x20000x1_0_0_0) (halved y 2 slices_S16x20000x4_S16x20000x1_0_0_2))
    (subf (part y 1 slices_S16x20000x4_S16x20000x1_0_0_1) (halved y 3 slices_S16x20000x4_S16x20000x1_0_0_3))
    (addf (part y 0 slices_S16x20000x4_S16x20000x1_0_0_0) (halved y 2 slices_S16x20000x4_S16x20000x1_0_0_2))
    (addf (part y 1 slices_S16x20000x4_S16x20000x1_0_0_1) (halved y 3 slices_S16x20000x4_S16x20000x1_0_0_3))

/-- The images' sizes as numbers, the width (column 1) or the height (column 0). -/
def size (z : IVec S16x2 32) (q : ℕ) (h : S16x2.Slices ![0, q] S16x1) : FVec F S16x1 .f32 :=
  broadcastInDim S16x1 ![0] bcast_S16_S16x1_0 (sitofp .f32 (shapeCast S16 (extractStridedSlice S16x1 ![0, q] z h) shapeCasts_S16x1_S16))

def joinSizes (u0 u1 u2 u3 : FVec F S16x1 .f32) : FVec F S16x4 .f32 :=
  concatenate S16x4 1 [⟨S16x1, u0⟩, ⟨S16x1, u1⟩, ⟨S16x1, u2⟩, ⟨S16x1, u3⟩] concatenates_S16x1_S16x1_S16x1_S16x1_S16x4_d1

/-- The scale of each coordinate, for every box. -/
def scale (z : IVec S16x2 32) : FVec F S16x100x4 .f32 :=
  broadcastInDim S16x100x4 ![0, 1, 2] bcast_S16x1x4_S16x100x4_0_1_2 (broadcastInDim S16x1x4 ![0, 2] bcast_S16x4_S16x1x4_0_2
    (joinSizes (size z 1 slices_S16x2_S16x1_0_1) (size z 0 slices_S16x2_S16x1_0_0) (size z 1 slices_S16x2_S16x1_0_1) (size z 0 slices_S16x2_S16x1_0_0)))

/-- The boxes gathered, with a filler where the start index is out of range. -/
def taken (y : FVec F S16x20000x4 .f32) (t : IVec S16x100x4x1 32) : FVec F S16x100x4 .f32 :=
  select (within t) (Host.gather gather_S16x20000x4_S16x100x4x1_S16x100x4_n_1_02_02_1_3_111 (corners y) t) (broadcastInDim S16x100x4 ![] bcast_S_S16x100x4 (constant S_ .f32 0x7FC00000#32))

def anchors (x : FVec F S16x20000x91 .f32) : IVec S16x100 32 := Routing.pyDiv bcast_S_S16x100 (found x) (constantI S_ 32 91#32)
def labels (x : FVec F S16x20000x91 .f32) : IVec S16x100 32 := Routing.pyRem bcast_S_S16x100 (found x) (constantI S_ 32 91#32)

set_option maxHeartbeats 4000000 in
/-- The boxes the reference returns. -/
theorem res_out2_eq (m : (ℓ : Loc nD τ sig) → Buf (Elt F) ℓ) (c : Dev nD) :
    Value.res_out2 m c = mulf (taken (m ((c.tc : Thread nD τ).loc main_arg1)) (starts (anchors (m ((c.tc : Thread nD τ).loc main_arg0))))) (scale (m ((c.tc : Thread nD τ).loc main_arg3))) := by
  unfold Value.res_out2 Value.res_main_v42
  rfl

/-! ### Read at an index -/

theorem spread_at (a : IVec S16x100 32) (b : Fin 16) (k : Fin 100) (q : Fin 4) : spread a (ix3 b k q) = a (ix2 b k) := by
  refine congrArg a (idx2_ext _ _ rfl rfl)

theorem starts_at (a : IVec S16x100 32) (b : Fin 16) (k : Fin 100) (q : Fin 4) {n : ℕ} (hn : n < 20000) (ha : a (ix2 b k) = nw n) :
    starts a (ix4 b k q (0 : Fin 1)) = nw n := by
  unfold starts
  rw [shapeCast_apply _ _ _ (ix3 b k q) (by
    rw [Shape.rowMajor_val_three, Shape.rowMajor_val_four]
    show (b.val * 100 + k.val) * 4 + q.val = ((b.val * 100 + k.val) * 4 + q.val) * 1 + 0
    omega)]
  have e : select (cmpi .slt (spread a) (broadcastInDim S16x100x4 ![] bcast_S_S16x100x4 (constantI S_ 32 0#32)))
    (addi (spread a) (broadcastInDim S16x100x4 ![] bcast_S_S16x100x4 (constantI S_ 32 20000#32))) (spread a) (ix3 b k q)
    = Scalar.select (IntOp.cmpi .slt (spread a (ix3 b k q)) 0#32) (IntOp.addi (spread a (ix3 b k q)) 20000#32) (spread a (ix3 b k q)) := rfl
  rw [e, spread_at, ha]
  have h0 : IntOp.cmpi .slt (nw n) 0#32 = 0#1 := by
    show BitVec.ofBool (BitVec.slt (nw n) 0#32) = _
    rw [BitVec.slt, toInt_nw (by omega), BitVec.toInt_zero, decide_eq_false (by omega)]
    rfl
  rw [h0]
  rfl

theorem within_at (t : IVec S16x100x4x1 32) (h : ∀ i, ∃ n < 20000, t i = nw n) (j : S16x100x4.Idx) : within t j = 1#1 := by
  have hall : ∀ i, andi (cmpi .sge t (broadcastInDim S16x100x4x1 ![] bcast_S_S16x100x4x1 (constantI S_ 32 0#32)))
    (cmpi .sle t (broadcastInDim S16x100x4x1 ![0, 1, 2, 3] bcast_S1x1x1x1_S16x100x4x1_0_1_2_3 (broadcastInDim S1x1x1x1 ![3] bcast_S1_S1x1x1x1_3 (constantI S1 32 19999#32)))) i = 1#1 := fun i => by
    obtain ⟨n, hn, e⟩ := h i
    have e' : andi (cmpi .sge t (broadcastInDim S16x100x4x1 ![] bcast_S_S16x100x4x1 (constantI S_ 32 0#32)))
      (cmpi .sle t (broadcastInDim S16x100x4x1 ![0, 1, 2, 3] bcast_S1x1x1x1_S16x100x4x1_0_1_2_3 (broadcastInDim S1x1x1x1 ![3] bcast_S1_S1x1x1x1_3 (constantI S1 32 19999#32)))) i
      = IntOp.andi (IntOp.cmpi .sge (t i) 0#32) (IntOp.cmpi .sle (t i) 19999#32) := rfl
    rw [e', e]
    have h1 : IntOp.cmpi .sge (nw n) 0#32 = 1#1 := by
      show BitVec.ofBool (BitVec.sle 0#32 (nw n)) = _
      rw [BitVec.sle, BitVec.toInt_zero, toInt_nw (by omega), decide_eq_true (by omega)]
      rfl
    have h2 : IntOp.cmpi .sle (nw n) 19999#32 = 1#1 := by
      show BitVec.ofBool (BitVec.sle (nw n) (nw 19999)) = _
      rw [BitVec.sle, toInt_nw (by omega), toInt_nw (by omega), decide_eq_true (by omega)]
      rfl
    rw [h1, h2]
    rfl
  have key : ∀ (l : List (Fin S16x100x4x1.numel)) (r : BitVec 1), r = 1#1 →
      l.foldl (fun r n => IntOp.andi r (andi (cmpi .sge t (broadcastInDim S16x100x4x1 ![] bcast_S_S16x100x4x1 (constantI S_ 32 0#32)))
        (cmpi .sle t (broadcastInDim S16x100x4x1 ![0, 1, 2, 3] bcast_S1x1x1x1_S16x100x4x1_0_1_2_3 (broadcastInDim S1x1x1x1 ![3] bcast_S1_S1x1x1x1_3 (constantI S1 32 19999#32))))
        (S16x100x4x1.rowMajor.symm n))) r = 1#1 := fun l => by
    induction l with
    | nil => exact fun r hr => hr
    | cons n l ih =>
      intro r hr
      rw [List.foldl_cons]
      refine ih _ ?_
      rw [hall, hr]
      rfl
  exact key _ _ rfl

theorem gather_at {α : Type} (x : S16x20000x4.Idx → α) (t : IVec S16x100x4x1 32) (b : Fin 16) (k : Fin 100) (q : Fin 4) (n : Fin 20000)
    (ht : t (ix4 b k q (0 : Fin 1)) = nw n.val) :
    Host.gather gather_S16x20000x4_S16x100x4x1_S16x100x4_n_1_02_02_1_3_111 x t (ix3 b k q) = x (ix3 b n q) := by
  let d := gather_S16x20000x4_S16x100x4x1_S16x100x4_n_1_02_02_1_3_111
  unfold Host.gather
  refine congrArg x (funext fun a => Fin.ext ?_)
  show d.start (ix3 b k q) t a + d.batchCoord (ix3 b k q) a + d.offCoord (ix3 b k q) a = _
  match a with
  | ⟨0, _⟩ =>
    have hm : (0 : Fin 3) ∈ d.operandBatchingDims := by show (0 : Fin 3) ∈ [0, 2]; decide
    show d.start (ix3 b k q) t 0 + d.batchCoord (ix3 b k q) 0 + d.offCoord (ix3 b k q) 0 = b.val
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  | ⟨1, _⟩ =>
    have hm : (1 : Fin 3) ∈ d.startIndexMap := by show (1 : Fin 3) ∈ [1]; decide
    have hc : (1 : Fin 3) ∈ d.collapsedSliceDims := by show (1 : Fin 3) ∈ [1]; decide
    have hnb : (1 : Fin 3) ∉ d.operandBatchingDims := by show (1 : Fin 3) ∉ [0, 2]; decide
    show d.start (ix3 b k q) t 1 + d.batchCoord (ix3 b k q) 1 + d.offCoord (ix3 b k q) 1 = n.val
    rw [GatherDims.batchCoord_eq_zero _ _ _ hnb, GatherDims.offCoord_eq_zero _ _ _ (fun h => ((GatherDims.mem_sKept _ _).mp h).1 hc)]
    simp only [Nat.add_zero]
    unfold GatherDims.start
    rw [dif_pos hm]
    have hsi : d.siIdx (ix3 b k q) ⟨d.startIndexMap.idxOf 1, List.idxOf_lt_length_iff.2 hm⟩ = ix4 b k q (0 : Fin 1) := by
      funext a'
      refine Fin.ext ?_
      match a' with
      | ⟨0, _⟩ => rfl
      | ⟨1, _⟩ => rfl
      | ⟨2, _⟩ => rfl
      | ⟨3, _⟩ => rfl
    rw [hsi, ht]
    have hn := n.isLt
    have a1 : (nw n.val).toInt.toNat = n.val := by
      rw [toInt_nw (by omega)]
      rfl
    show min (nw n.val).toInt.toNat (20000 - 1) = n.val
    rw [a1]
    omega
  | ⟨2, _⟩ =>
    have hm : (2 : Fin 3) ∈ d.operandBatchingDims := by show (2 : Fin 3) ∈ [0, 2]; decide
    show d.start (ix3 b k q) t 2 + d.batchCoord (ix3 b k q) 2 + d.offCoord (ix3 b k q) 2 = q.val
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl

theorem join_at (u : Fin 4 → FVec F S16x20000x1 .f32) (b : Fin 16) (n : Fin 20000) (q : Fin 4) :
    join (u 0) (u 1) (u 2) (u 3) (ix3 b n q) = u q (ix3 b n (0 : Fin 1)) := by
  unfold join
  rw [concatenate_apply]
  match q with
  | ⟨0, _⟩ => simp [pointwise]
  | ⟨1, _⟩ => simp [pointwise]
  | ⟨2, _⟩ => simp [pointwise]
  | ⟨3, _⟩ => simp [pointwise]

theorem joinSizes_at (u : Fin 4 → FVec F S16x1 .f32) (b : Fin 16) (q : Fin 4) :
    joinSizes (u 0) (u 1) (u 2) (u 3) (ix2 b q) = u q (ix2 b (0 : Fin 1)) := by
  unfold joinSizes
  rw [concatenate_apply]
  match q with
  | ⟨0, _⟩ => simp [pointwise]
  | ⟨1, _⟩ => simp [pointwise]
  | ⟨2, _⟩ => simp [pointwise]
  | ⟨3, _⟩ => simp [pointwise]

theorem part_at (y : FVec F S16x20000x4 .f32) (q : ℕ) (hq : q < 4) (h : S16x20000x4.Slices ![0, 0, q] S16x20000x1) (b : Fin 16) (n : Fin 20000) :
    part y q h (ix3 b n (0 : Fin 1)) = y (ix3 b n (⟨q, hq⟩ : Fin 4)) := by
  refine congrArg y (funext fun a => Fin.ext ?_)
  match a with
  | ⟨0, _⟩ => show 0 + b.val = b.val; omega
  | ⟨1, _⟩ => show 0 + n.val = n.val; omega
  | ⟨2, _⟩ => show q + 0 = q; omega

theorem size_at (z : IVec S16x2 32) (q : ℕ) (hq : q < 2) (h : S16x2.Slices ![0, q] S16x1) (b : Fin 16) :
    size (F := F) z q h (ix2 b (0 : Fin 1)) = FloatOps.sitofp .f32 (z (ix2 b (⟨q, hq⟩ : Fin 2))) := by
  have e : size (F := F) z q h (ix2 b (0 : Fin 1)) = FloatOps.sitofp .f32 (shapeCast S16 (extractStridedSlice S16x1 ![0, q] z h) shapeCasts_S16x1_S16 (ix1 b)) := by
    refine congrArg (fun i => FloatOps.sitofp (F := F) .f32 (shapeCast S16 (extractStridedSlice S16x1 ![0, q] z h) shapeCasts_S16x1_S16 i)) ?_
    exact funext fun a => match a with | ⟨0, _⟩ => rfl
  rw [e, shapeCast_apply _ _ _ (ix2 b (0 : Fin 1)) (by
    rw [Shape.rowMajor_val_two, Shape.rowMajor_val_one]
    show b.val * 1 + 0 = b.val
    omega)]
  refine congrArg (fun i => FloatOps.sitofp (F := F) .f32 (z i)) (idx2_ext _ _ ?_ ?_)
  · show 0 + b.val = b.val; omega
  · show q + 0 = q; omega

/-- The near and far edges of a box, in the host's operations. -/
def nearH (c e z : F .f32) : F .f32 := FloatOps.mulf (FloatOps.subf c (FloatOps.mulf (FloatOps.ofBits .f32 0x3F000000#32) e)) z
def farH (c e z : F .f32) : F .f32 := FloatOps.mulf (FloatOps.addf c (FloatOps.mulf (FloatOps.ofBits .f32 0x3F000000#32) e)) z

/-- Coordinate `q` of a pick's scaled box: from its four numbers and the two sizes. -/
def edge (x0 x1 x2 x3 w h : F .f32) (q : Fin 4) : F .f32 := ![nearH x0 x2 w, nearH x1 x3 h, farH x0 x2 w, farH x1 x3 h] q

theorem spreadSizes_at (u : FVec F S16x4 .f32) (b : Fin 16) (k : Fin 100) (q : Fin 4) :
    broadcastInDim S16x100x4 ![0, 1, 2] bcast_S16x1x4_S16x100x4_0_1_2 (broadcastInDim S16x1x4 ![0, 2] bcast_S16x4_S16x1x4_0_2 u) (ix3 b k q) = u (ix2 b q) := by
  refine congrArg u (idx2_ext _ _ rfl rfl)

theorem corners_scaled (y : FVec F S16x20000x4 .f32) (z : IVec S16x2 32) (b : Fin 16) (k : Fin 100) (n : Fin 20000) (q : Fin 4) :
    FloatOps.mulf (corners y (ix3 b n q)) (scale z (ix3 b k q))
      = edge (y (ix3 b n (0 : Fin 4))) (y (ix3 b n (1 : Fin 4))) (y (ix3 b n (2 : Fin 4))) (y (ix3 b n (3 : Fin 4)))
          (FloatOps.sitofp .f32 (z (ix2 b (1 : Fin 2)))) (FloatOps.sitofp .f32 (z (ix2 b (0 : Fin 2)))) q := by
  have hj := join_at (F := F) ![subf (part y 0 slices_S16x20000x4_S16x20000x1_0_0_0) (halved y 2 slices_S16x20000x4_S16x20000x1_0_0_2),
    subf (part y 1 slices_S16x20000x4_S16x20000x1_0_0_1) (halved y 3 slices_S16x20000x4_S16x20000x1_0_0_3),
    addf (part y 0 slices_S16x20000x4_S16x20000x1_0_0_0) (halved y 2 slices_S16x20000x4_S16x20000x1_0_0_2),
    addf (part y 1 slices_S16x20000x4_S16x20000x1_0_0_1) (halved y 3 slices_S16x20000x4_S16x20000x1_0_0_3)] b n q
  have hs := joinSizes_at (F := F) ![size z 1 slices_S16x2_S16x1_0_1, size z 0 slices_S16x2_S16x1_0_0, size z 1 slices_S16x2_S16x1_0_1, size z 0 slices_S16x2_S16x1_0_0] b q
  have e0 := part_at y 0 (by omega) slices_S16x20000x4_S16x20000x1_0_0_0 b n
  have e1 := part_at y 1 (by omega) slices_S16x20000x4_S16x20000x1_0_0_1 b n
  have e2 := part_at y 2 (by omega) slices_S16x20000x4_S16x20000x1_0_0_2 b n
  have e3 := part_at y 3 (by omega) slices_S16x20000x4_S16x20000x1_0_0_3 b n
  have z0 := size_at (F := F) z 0 (by omega) slices_S16x2_S16x1_0_0 b
  have z1 := size_at (F := F) z 1 (by omega) slices_S16x2_S16x1_0_1 b
  have es : scale (F := F) z (ix3 b k q) = joinSizes (F := F) (size z 1 slices_S16x2_S16x1_0_1) (size z 0 slices_S16x2_S16x1_0_0) (size z 1 slices_S16x2_S16x1_0_1) (size z 0 slices_S16x2_S16x1_0_0) (ix2 b q) :=
    spreadSizes_at _ b k q
  rw [es]
  refine (congrArg₂ FloatOps.mulf hj hs).trans ?_
  match q with
  | ⟨0, _⟩ =>
    show FloatOps.mulf (FloatOps.subf (part y 0 _ (ix3 b n (0 : Fin 1))) (FloatOps.mulf (FloatOps.ofBits .f32 0x3F000000#32) (part y 2 _ (ix3 b n (0 : Fin 1))))) (size z 1 _ (ix2 b (0 : Fin 1))) = _
    rw [e0, e2, z1]; rfl
  | ⟨1, _⟩ =>
    show FloatOps.mulf (FloatOps.subf (part y 1 _ (ix3 b n (0 : Fin 1))) (FloatOps.mulf (FloatOps.ofBits .f32 0x3F000000#32) (part y 3 _ (ix3 b n (0 : Fin 1))))) (size z 0 _ (ix2 b (0 : Fin 1))) = _
    rw [e1, e3, z0]; rfl
  | ⟨2, _⟩ =>
    show FloatOps.mulf (FloatOps.addf (part y 0 _ (ix3 b n (0 : Fin 1))) (FloatOps.mulf (FloatOps.ofBits .f32 0x3F000000#32) (part y 2 _ (ix3 b n (0 : Fin 1))))) (size z 1 _ (ix2 b (0 : Fin 1))) = _
    rw [e0, e2, z1]; rfl
  | ⟨3, _⟩ =>
    show FloatOps.mulf (FloatOps.addf (part y 1 _ (ix3 b n (0 : Fin 1))) (FloatOps.mulf (FloatOps.ofBits .f32 0x3F000000#32) (part y 3 _ (ix3 b n (0 : Fin 1))))) (size z 0 _ (ix2 b (0 : Fin 1))) = _
    rw [e1, e3, z0]; rfl

theorem boxes_at (x : IVec S16x100 32) (y : FVec F S16x20000x4 .f32) (z : IVec S16x2 32) (b : Fin 16) (k : Fin 100) (q : Fin 4)
    (hx : ∀ b' k', ∃ n < 20000, x (ix2 b' k') = nw n) (n : Fin 20000) (hn : x (ix2 b k) = nw n.val) :
    mulf (taken y (starts x)) (scale z) (ix3 b k q)
      = edge (y (ix3 b n (0 : Fin 4))) (y (ix3 b n (1 : Fin 4))) (y (ix3 b n (2 : Fin 4))) (y (ix3 b n (3 : Fin 4)))
          (FloatOps.sitofp .f32 (z (ix2 b (1 : Fin 2)))) (FloatOps.sitofp .f32 (z (ix2 b (0 : Fin 2)))) q := by
  rw [← corners_scaled y z b k n q]
  refine congrArg (fun v => FloatOps.mulf v (scale z (ix3 b k q))) ?_
  have hw : within (starts x) (ix3 b k q) = 1#1 := within_at _ (fun i => by
    obtain ⟨n', hn', e⟩ := hx (⟨(i 0).val, (i 0).isLt⟩ : Fin 16) (⟨(i 1).val, (i 1).isLt⟩ : Fin 100)
    refine ⟨n', hn', ?_⟩
    have ei : i = ix4 (⟨(i 0).val, (i 0).isLt⟩ : Fin 16) (⟨(i 1).val, (i 1).isLt⟩ : Fin 100) (⟨(i 2).val, (i 2).isLt⟩ : Fin 4) (0 : Fin 1) := by
      funext a
      match a with
      | ⟨0, _⟩ => rfl
      | ⟨1, _⟩ => rfl
      | ⟨2, _⟩ => rfl
      | ⟨3, _⟩ => exact Fin.ext (by have h3 : (i 3).val < 1 := (i 3).isLt; show (i 3).val = 0; omega)
    rw [ei]
    exact starts_at x _ _ _ hn' e) _
  have e : taken y (starts x) (ix3 b k q) = Scalar.select (within (starts x) (ix3 b k q))
      (Host.gather gather_S16x20000x4_S16x100x4x1_S16x100x4_n_1_02_02_1_3_111 (corners y) (starts x) (ix3 b k q)) (FloatOps.ofBits .f32 0x7FC00000#32) := rfl
  rw [e, hw, gather_at (corners y) (starts x) b k q n (starts_at x b k q n.isLt hn)]
  rfl

end AnyFloat

/-! ### Over the extended reals -/

section AtIdeal
variable (x : FVec Ideal S16x20000x91 .f32)

theorem probs_at (b : Fin 16) (p : Fin 1820000) : probs (F := Ideal) x (ix2 b p) = rowScores x b p.val := by
  have hp := p.isLt
  unfold probs
  rw [shapeCast_apply _ _ _ (ix3 b (⟨p.val / 91, by omega⟩ : Fin 20000) (⟨p.val % 91, by omega⟩ : Fin 91)) (by
    rw [Shape.rowMajor_val_three, Shape.rowMajor_val_two]
    show (b.val * 20000 + p.val / 91) * 91 + p.val % 91 = b.val * 1820000 + p.val
    omega)]
  refine (hostLogistic_ideal bcast_S_S16x20000x91 x _).trans ?_
  rw [rowScores, flat_of_lt _ hp]
  rfl

theorem top_at (b : Fin 16) (k : Fin 100) :
    (Host.topK S16x100 1 (FloatOps.cmpfTotal (F := Ideal) (φ := .f32) .gt) (probs (F := Ideal) x) sliceFits_S16x1820000_S16x100).1 (ix2 b k) = rowScores x b (pickOf x b k.val)
      ∧ found (F := Ideal) x (ix2 b k) = nw (pickOf x b k.val) :=
  topK_pick (probs (F := Ideal) x) (rowScores x b) sliceFits_S16x1820000_S16x100 (by omega) b k (probs_at x b)
    (fun p _ => flat_scores_nonneg (image x b) p)

theorem anchors_at (b : Fin 16) (k : Fin 100) : anchors (F := Ideal) x (ix2 b k) = nw (pickOf x b k.val / 91) := by
  have h := pickOf_lt x b k
  exact Routing.pyDiv_ap bcast_S_S16x100 (found (F := Ideal) x) (constantI S_ 32 91#32) (ix2 b k) (top_at x b k).2 rfl (by omega) (by omega) (by omega)

theorem labels_at (b : Fin 16) (k : Fin 100) : labels (F := Ideal) x (ix2 b k) = nw (pickOf x b k.val % 91) := by
  have h := pickOf_lt x b k
  exact Routing.pyRem_ap bcast_S_S16x100 (found (F := Ideal) x) (constantI S_ 32 91#32) (ix2 b k) (top_at x b k).2 rfl (by omega) (by omega) (by omega)

end AtIdeal

end Ref

/-! ## The three results -/

/-- The scores, the labels and the boxes of the hundred picks of each image. -/
def resScores (x : (⟨3, ![16, 20000, 91]⟩ : Shape).Idx → EReal) : (⟨2, ![16, 100]⟩ : Shape).Idx → EReal :=
  fun i => rowScores x (i 0) (pickOf x (i 0) (i 1).val)
def resLabels (x : (⟨3, ![16, 20000, 91]⟩ : Shape).Idx → EReal) : (⟨2, ![16, 100]⟩ : Shape).Idx → BitVec 32 :=
  fun i => nw (pickOf x (i 0) (i 1).val % 91)
/-- The number of pick `k`'s anchor. -/
def anchorOf (x : (⟨3, ![16, 20000, 91]⟩ : Shape).Idx → EReal) (b : Fin 16) (k : Fin 100) : Fin 20000 :=
  ⟨pickOf x b k.val / 91, by have := pickOf_lt x b k; omega⟩
def resBoxes (x : (⟨3, ![16, 20000, 91]⟩ : Shape).Idx → EReal) (y : (⟨3, ![16, 20000, 4]⟩ : Shape).Idx → EReal) (z : (⟨2, ![16, 2]⟩ : Shape).Idx → BitVec 32) :
    (⟨3, ![16, 100, 4]⟩ : Shape).Idx → EReal := fun i =>
  Ref.edge (F := Ideal) (y (ix3 (i 0) (anchorOf x (i 0) (i 1)) (0 : Fin 4))) (y (ix3 (i 0) (anchorOf x (i 0) (i 1)) (1 : Fin 4)))
    (y (ix3 (i 0) (anchorOf x (i 0) (i 1)) (2 : Fin 4))) (y (ix3 (i 0) (anchorOf x (i 0) (i 1)) (3 : Fin 4)))
    (FloatOps.sitofp (F := Ideal) .f32 (z (ix2 (i 0) (1 : Fin 2)))) (FloatOps.sitofp (F := Ideal) .f32 (z (ix2 (i 0) (0 : Fin 2)))) (i 2)

namespace Ref
open Cert.ReferenceIdeal Cert.ReferenceIdeal.Gen

theorem scores_eq (x : FVec Ideal S16x20000x91 .f32) :
    (Host.topK S16x100 1 (FloatOps.cmpfTotal (F := Ideal) (φ := .f32) .gt) (probs (F := Ideal) x) sliceFits_S16x1820000_S16x100).1 = resScores x := by
  funext i
  rw [eq_ix2 i]
  exact (top_at x _ _).1

theorem labels_eq (x : FVec Ideal S16x20000x91 .f32) : labels (F := Ideal) x = resLabels x := by
  funext i
  rw [eq_ix2 i]
  exact labels_at x _ _

theorem boxes_eq (x : FVec Ideal S16x20000x91 .f32) (y : FVec Ideal S16x20000x4 .f32) (z : IVec S16x2 32) :
    mulf (taken (F := Ideal) y (starts (anchors (F := Ideal) x))) (scale (F := Ideal) z) = resBoxes x y z := by
  funext i
  rw [eq_ix3 i]
  exact boxes_at (F := Ideal) (anchors (F := Ideal) x) y z _ _ _ (fun b k => ⟨_, (anchorOf x b k).isLt, anchors_at x b k⟩) (anchorOf x _ _) (anchors_at x _ _)

end Ref

end Cert.Proof

end
-- ==== Proof.Results.lean ====
/-
  The three result arrays of the kernel over the extended reals: when the picks of every image lie in whole slabs, no image
  leaves the range, and the arrays end holding the scores, the labels and the boxes of the picks.
-/
module

public import proofs.«01_k».proof.Proof.Inputs
public import proofs.«01_k».proof.Proof.RefValue

@[expose] public section

set_option maxRecDepth 16384

noncomputable section

namespace Cert.Proof

open Cert.KernelIdeal Cert.KernelIdeal.Gen
open Idealize.ShloMosaic Idealize.ShloMosaic.TcCoe
open Idealize.SL.Sem

variable (m : (ℓ : Loc nD τ sig) → Buf (Elt Ideal) ℓ)

/-- The logits, the boxes and the sizes of core `c`. -/
abbrev argX (c : Dev nD) : (⟨3, ![16, 20000, 91]⟩ : Shape).Idx → EReal := m ((c : Thread nD τ).loc main_arg0)
abbrev argY (c : Dev nD) : (⟨3, ![16, 20000, 4]⟩ : Shape).Idx → EReal := m ((c : Thread nD τ).loc main_arg1)
abbrev argZ (c : Dev nD) : (⟨2, ![16, 2]⟩ : Shape).Idx → BitVec 32 := m ((c : Thread nD τ).loc main_arg3)

/-- The picks of every image lie in whole slabs. -/
def InSlabs : Prop := ∀ (c : Dev nD) (b : Fin 16) (k : Fin 100), pickOf (argX m c) b k.val < 1817088

/-! ## The end of a point -/

theorem logits_image (c : Dev nD) (b : Fin 16) : logitsOf (F := Ideal) c (V m c main_arg0) b = image (argX m c) b := by
  funext i
  rw [V_main_arg0]
  exact logits_at (F := Ideal) c _ b i

theorem picks_point {m : (ℓ : Loc nD τ sig) → Buf (Elt Ideal) ℓ} (h : InSlabs m) (c : Dev nD) (b : Fin 16) :
    ∀ j < 100, pick 1820000 (flat (scores (logitsOf (F := Ideal) c (V m c main_arg0) b))) j < 1817088 := fun j hj => by
  rw [logits_image]
  exact h c b ⟨j, hj⟩

/-- No image leaves the range. -/
theorem allSafe {m : (ℓ : Loc nD τ sig) → Buf (Elt Ideal) ℓ} (h : InSlabs m) : AllSafe (F := Ideal) m := fun c t =>
  safe_of_picks _ _ _ _ (picks_point h c _)

/-- The number of the image of a point. -/
abbrev imageOf (t : Fin cfg0.N) : Fin 16 := Ring.bk 16 t.val

/-- The state a point ends in, over the extended reals. -/
abbrev endsOf (c : Dev nD) (t : Fin cfg0.N) : St2 Ideal := ends (F := Ideal) m c t

/-- What the carried rows hold at the end of a point, at the lane of place `k`. -/
theorem holds_point {m : (ℓ : Loc nD τ sig) → Buf (Elt Ideal) ℓ} (h : InSlabs m) (c : Dev nD) (t : Fin cfg0.N) (k : ℕ) (hk : k < 100) :
    Holds (rowScores (argX m c) (imageOf t)) (boxesOf (F := Ideal) c (V m c main_v0) (imageOf t))
      (FloatOps.sitofp (F := Ideal) .f32 (argZ m c (ix2 (imageOf t) (0 : Fin 2)))) (FloatOps.sitofp (F := Ideal) .f32 (argZ m c (ix2 (imageOf t) (1 : Fin 2))))
      k (lane k hk) (endsOf m c t).2 := by
  have e := holds_end (logitsOf (F := Ideal) c (V m c main_arg0) (imageOf t)) (boxesOf (F := Ideal) c (V m c main_v0) (imageOf t))
    (heightOf (F := Ideal) (iblk m c 0 t)) (widthOf (F := Ideal) (iblk m c 0 t)) (picks_point h c _) k hk (lane k hk) rfl
  rw [logits_image] at e
  have eh : heightOf (F := Ideal) (iblk m c 0 t) = FloatOps.sitofp (F := Ideal) .f32 (argZ m c (ix2 (imageOf t) (0 : Fin 2))) := sizes_at (F := Ideal) m c t 0
  have ew : widthOf (F := Ideal) (iblk m c 0 t) = FloatOps.sitofp (F := Ideal) .f32 (argZ m c (ix2 (imageOf t) (1 : Fin 2))) := sizes_at (F := Ideal) m c t 1
  have ee : endsOf m c t = atTrip (logitsOf (F := Ideal) c (V m c main_arg0) (imageOf t)) (boxesOf (F := Ideal) c (V m c main_v0) (imageOf t))
    (heightOf (F := Ideal) (iblk m c 0 t)) (widthOf (F := Ideal) (iblk m c 0 t)) k0_t2_loop.trips := rfl
  rw [logits_image] at ee
  rw [ee, ← eh, ← ew]
  exact e

/-- The numbers of the box of pick `k`. -/
theorem box_point (c : Dev nD) (b : Fin 16) (k : Fin 100) (q : Fin 4) :
    boxNum (boxesOf (F := Ideal) c (V m c main_v0) b) (pickOf (argX m c) b k.val / 91) q.val = argY m c (ix3 b (anchorOf (argX m c) b k) q) := by
  have hp := pickOf_lt (argX m c) b k
  have hq := q.isLt
  unfold boxNum
  rw [dif_pos ⟨by omega, by omega⟩]
  exact boxes_num (F := Ideal) m c b (anchorOf (argX m c) b k) q _ rfl rfl

/-- The four edges at the end of a point. -/
theorem edges_point {m : (ℓ : Loc nD τ sig) → Buf (Elt Ideal) ℓ} (h : InSlabs m) (c : Dev nD) (t : Fin cfg0.N) (k : Fin 100) (q : Fin 4) :
    ![(endsOf m c t).2.2.2.2.1, (endsOf m c t).2.2.2.2.2.1, (endsOf m c t).2.2.2.2.2.2.1, (endsOf m c t).2.2.2.2.2.2.2] q (lane k.val k.isLt)
      = resBoxes (argX m c) (argY m c) (argZ m c) (ix3 (imageOf t) k q) := by
  have hh := holds_point h c t k.val k.isLt
  have b0 := box_point m c (imageOf t) k 0
  have b1 := box_point m c (imageOf t) k 1
  have b2 := box_point m c (imageOf t) k 2
  have b3 := box_point m c (imageOf t) k 3
  have e0 := hh.left'
  have e1 := hh.top'
  have e2 := hh.right'
  have e3 := hh.bot'
  erw [b0, b2] at e0 e2
  erw [b1, b3] at e1 e3
  fin_cases q
  · exact e0
  · exact e1
  · exact e2
  · exact e3

/-! ## The arrays written -/

theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 ∧ win0_2.index t 2 = 0 := by decide +kernel
theorem index3 : ∀ t : Fin grid0.N, win0_3.index t 0 = t.val ∧ win0_3.index t 1 = 0 ∧ win0_3.index t 2 = 0 ∧ win0_3.index t 3 = 0 := by decide +kernel

/-- The three arrays, an image to a block. -/
def arrScores (c : Dev nD) : S16x1x100.Idx → EReal := fun i => resScores (argX m c) (ix2 (⟨(i 0).val, (i 0).isLt⟩ : Fin 16) (⟨(i 2).val, (i 2).isLt⟩ : Fin 100))
def arrLabels (c : Dev nD) : S16x1x100.Idx → BitVec 32 := fun i => resLabels (argX m c) (ix2 (⟨(i 0).val, (i 0).isLt⟩ : Fin 16) (⟨(i 2).val, (i 2).isLt⟩ : Fin 100))
def arrBoxes (c : Dev nD) : S16x1x4x100.Idx → EReal := fun i =>
  resBoxes (argX m c) (argY m c) (argZ m c) (ix3 (⟨(i 0).val, (i 0).isLt⟩ : Fin 16) (⟨(i 3).val, (i 3).isLt⟩ : Fin 100) (⟨(i 2).val, (i 2).isLt⟩ : Fin 4))

theorem imageOf_val (t : Fin cfg0.N) : (imageOf t).val = t.val := Ring.bk_val (t.isLt.trans_eq N_0)

variable {m}

theorem flushed1 (h : InSlabs m) (c : Dev nD) (t : Fin cfg0.N) :
    (dats (F := Ideal) m 0 c).flushed 1 t = ((cfg0.win 1).blk t).view.read (Elt Ideal) (arrScores m c) := by
  show (cfg0.win 1).cut (grid0.coords t) ((dats (F := Ideal) m 0 c).after 1 t) = _
  rw [after1]
  funext j
  rw [View.read_apply]
  have hi := index1 t
  have h0 : ((j : S1x1x100.Idx) 0).val < 1 := ((j : S1x1x100.Idx) 0).isLt
  have hj : ((j : S1x1x100.Idx) 2).val < 100 := ((j : S1x1x100.Idx) 2).isLt
  refine (outScores_at (F := Ideal) (endsOf m c t) j).trans ((holds_point h c t ((j : S1x1x100.Idx) 2).val hj).score.trans ?_)
  refine Eq.trans (b := resScores (argX m c) (ix2 (imageOf t) (⟨((j : S1x1x100.Idx) 2).val, hj⟩ : Fin 100))) rfl ?_
  refine congrArg (resScores (argX m c)) (idx2_ext _ _ ?_ ?_)
  · show (imageOf t).val = win0_1.index t 0 * 1 + 1 * ((j : S1x1x100.Idx) 0).val
    rw [imageOf_val, hi.1]; omega
  · show ((j : S1x1x100.Idx) 2).val = win0_1.index t 2 * 100 + 1 * ((j : S1x1x100.Idx) 2).val
    rw [hi.2.2]; omega

theorem flushed2 (h : InSlabs m) (c : Dev nD) (t : Fin cfg0.N) :
    (dats (F := Ideal) m 0 c).flushed 2 t = ((cfg0.win 2).blk t).view.read (Elt Ideal) (arrLabels m c) := by
  show (cfg0.win 2).cut (grid0.coords t) ((dats (F := Ideal) m 0 c).after 2 t) = _
  rw [after2]
  funext j
  rw [View.read_apply]
  have hi := index2 t
  have h0 : ((j : S1x1x100.Idx) 0).val < 1 := ((j : S1x1x100.Idx) 0).isLt
  have hj : ((j : S1x1x100.Idx) 2).val < 100 := ((j : S1x1x100.Idx) 2).isLt
  refine (outLabels_at (F := Ideal) (endsOf m c t) j).trans ((holds_point h c t ((j : S1x1x100.Idx) 2).val hj).label.trans ?_)
  refine Eq.trans (b := resLabels (argX m c) (ix2 (imageOf t) (⟨((j : S1x1x100.Idx) 2).val, hj⟩ : Fin 100))) rfl ?_
  refine congrArg (resLabels (argX m c)) (idx2_ext _ _ ?_ ?_)
  · show (imageOf t).val = win0_2.index t 0 * 1 + 1 * ((j : S1x1x100.Idx) 0).val
    rw [imageOf_val, hi.1]; omega
  · show ((j : S1x1x100.Idx) 2).val = win0_2.index t 2 * 100 + 1 * ((j : S1x1x100.Idx) 2).val
    rw [hi.2.2]; omega

theorem flushed3 (h : InSlabs m) (c : Dev nD) (t : Fin cfg0.N) :
    (dats (F := Ideal) m 0 c).flushed 3 t = ((cfg0.win 3).blk t).view.read (Elt Ideal) (arrBoxes m c) := by
  show (cfg0.win 3).cut (grid0.coords t) ((dats (F := Ideal) m 0 c).after 3 t) = _
  rw [after3]
  funext j
  rw [View.read_apply]
  have hi := index3 t
  have h0 : ((j : S1x1x4x100.Idx) 0).val < 1 := ((j : S1x1x4x100.Idx) 0).isLt
  have h2 : ((j : S1x1x4x100.Idx) 2).val < 4 := ((j : S1x1x4x100.Idx) 2).isLt
  have hj : ((j : S1x1x4x100.Idx) 3).val < 100 := ((j : S1x1x4x100.Idx) 3).isLt
  refine (outBoxes_at (F := Ideal) (endsOf m c t) anyBoxes j ⟨((j : S1x1x4x100.Idx) 2).val, h2⟩ rfl).trans
    ((edges_point h c t ⟨((j : S1x1x4x100.Idx) 3).val, hj⟩ ⟨((j : S1x1x4x100.Idx) 2).val, h2⟩).trans ?_)
  refine congrArg (resBoxes (argX m c) (argY m c) (argZ m c)) (funext fun a => ?_)
  match a with
  | ⟨0, _⟩ => exact Fin.ext (by
      show (imageOf t).val = win0_3.index t 0 * 1 + 1 * ((j : S1x1x4x100.Idx) 0).val
      rw [imageOf_val, hi.1]; omega)
  | ⟨1, _⟩ => exact Fin.ext (by
      show ((j : S1x1x4x100.Idx) 3).val = win0_3.index t 3 * 100 + 1 * ((j : S1x1x4x100.Idx) 3).val
      rw [hi.2.2.2]; omega)
  | ⟨2, _⟩ => exact Fin.ext (by
      show ((j : S1x1x4x100.Idx) 2).val = win0_3.index t 2 * 4 + 1 * ((j : S1x1x4x100.Idx) 2).val
      rw [hi.2.2.1]; omega)

/-! The blocks of each of the three windows tile its array. -/

theorem cover1 (i : S16x1x100.Idx) : ∃ t : Fin cfg0.N, (cfg0.win 1).flush t = true ∧ i ∈ ((cfg0.win 1).blk t).view.set := by
  have h0 : (i 0).val < 16 := (i 0).isLt
  have h1 : (i 1).val < 1 := (i 1).isLt
  have h2 : (i 2).val < 100 := (i 2).isLt
  have ht : (i 0).val < cfg0.N := h0.trans_eq N_0.symm
  have hi := index1 ⟨(i 0).val, ht⟩
  refine ⟨⟨(i 0).val, ht⟩, flush0_1 _, ?_⟩
  show i ∈ ((View.whole main_v3_0).slice (win0_1.rect ⟨(i 0).val, ht⟩)).set
  rw [View.set_slice_whole, Rect.mem_set_unit]
  intro a
  match a with
  | ⟨0, _⟩ => show win0_1.index ⟨(i 0).val, ht⟩ 0 * 1 ≤ (i 0).val ∧ (i 0).val < win0_1.index ⟨(i 0).val, ht⟩ 0 * 1 + 1; rw [hi.1]; dsimp only; omega
  | ⟨1, _⟩ => show win0_1.index ⟨(i 0).val, ht⟩ 1 * 1 ≤ (i 1).val ∧ (i 1).val < win0_1.index ⟨(i 0).val, ht⟩ 1 * 1 + 1; rw [hi.2.1]; omega
  | ⟨2, _⟩ => show win0_1.index ⟨(i 0).val, ht⟩ 2 * 100 ≤ (i 2).val ∧ (i 2).val < win0_1.index ⟨(i 0).val, ht⟩ 2 * 100 + 100; rw [hi.2.2]; omega

theorem cover2 (i : S16x1x100.Idx) : ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 100 := (i 2).isLt
  have ht : (i 0).val < cfg0.N := h0.trans_eq N_0.symm
  have hi := index2 ⟨(i 0).val, ht⟩
  refine ⟨⟨(i 0).val, ht⟩, flush0_2 _, ?_⟩
  show i ∈ ((View.whole main_v3_1).slice (win0_2.rect ⟨(i 0).val, ht⟩)).set
  rw [View.set_slice_whole, Rect.mem_set_unit]
  intro a
  match a with
  | ⟨0, _⟩ => show win0_2.index ⟨(i 0).val, ht⟩ 0 * 1 ≤ (i 0).val ∧ (i 0).val < win0_2.index ⟨(i 0).val, ht⟩ 0 * 1 + 1; rw [hi.1]; dsimp only; omega
  | ⟨1, _⟩ => show win0_2.index ⟨(i 0).val, ht⟩ 1 * 1 ≤ (i 1).val ∧ (i 1).val < win0_2.index ⟨(i 0).val, ht⟩ 1 * 1 + 1; rw [hi.2.1]; omega
  | ⟨2, _⟩ => show win0_2.index ⟨(i 0).val, ht⟩ 2 * 100 ≤ (i 2).val ∧ (i 2).val < win0_2.index ⟨(i 0).val, ht⟩ 2 * 100 + 100; rw [hi.2.2]; omega

theorem cover3 (i : S16x1x4x100.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4 := (i 2).isLt
  have h3 : (i 3).val < 100 := (i 3).isLt
  have ht : (i 0).val < cfg0.N := h0.trans_eq N_0.symm
  have hi := index3 ⟨(i 0).val, ht⟩
  refine ⟨⟨(i 0).val, ht⟩, flush0_3 _, ?_⟩
  show i ∈ ((View.whole main_v3_2).slice (win0_3.rect ⟨(i 0).val, ht⟩)).set
  rw [View.set_slice_whole, Rect.mem_set_unit]
  intro a
  match a with
  | ⟨0, _⟩ => show win0_3.index ⟨(i 0).val, ht⟩ 0 * 1 ≤ (i 0).val ∧ (i 0).val < win0_3.index ⟨(i 0).val, ht⟩ 0 * 1 + 1; rw [hi.1]; dsimp only; omega
  | ⟨1, _⟩ => show win0_3.index ⟨(i 0).val, ht⟩ 1 * 1 ≤ (i 1).val ∧ (i 1).val < win0_3.index ⟨(i 0).val, ht⟩ 1 * 1 + 1; rw [hi.2.1]; omega
  | ⟨2, _⟩ => show win0_3.index ⟨(i 0).val, ht⟩ 2 * 4 ≤ (i 2).val ∧ (i 2).val < win0_3.index ⟨(i 0).val, ht⟩ 2 * 4 + 4; rw [hi.2.2.1]; omega
  | ⟨3, _⟩ => show win0_3.index ⟨(i 0).val, ht⟩ 3 * 100 ≤ (i 3).val ∧ (i 3).val < win0_3.index ⟨(i 0).val, ht⟩ 3 * 100 + 100; rw [hi.2.2.2]; omega

/-- The three arrays after the launch. -/
theorem final1 (h : InSlabs m) (c : Dev nD) : (dats (F := Ideal) m 0 c).arrAt 1 cfg0.N = arrScores m c :=
  (dats (F := Ideal) m 0 c).arrAt_eq_of_cover 1 (arrScores m c) (fun t _ => flushed1 h c t) cover1
theorem final2 (h : InSlabs m) (c : Dev nD) : (dats (F := Ideal) m 0 c).arrAt 2 cfg0.N = arrLabels m c :=
  (dats (F := Ideal) m 0 c).arrAt_eq_of_cover 2 (arrLabels m c) (fun t _ => flushed2 h c t) cover2
theorem final3 (h : InSlabs m) (c : Dev nD) : (dats (F := Ideal) m 0 c).arrAt 3 cfg0.N = arrBoxes m c :=
  (dats (F := Ideal) m 0 c).arrAt_eq_of_cover 3 (arrBoxes m c) (fun t _ => flushed3 h c t) cover3

end Cert.Proof

end
-- ==== Proof.Runs.lean ====
/-
  The runs of the two programs over the extended reals, read at their results and their arguments: where the picks of every
  image lie in whole slabs, both end with the scores, the labels and the boxes of the picks. And what the precondition says.
-/
module

public import proofs.«01_k».proof.Defs
public import proofs.«01_k».proof.Proof.Results
public import proofs.«01_k».proof.Proof.Gen.Pre_picks_in_whole_slabs

@[expose] public section

set_option maxRecDepth 16384

noncomputable section

namespace Cert.Proof

open Idealize.ShloMosaic Idealize.ShloMosaic.TcCoe
open Idealize.SL.Sem

/-! ## The kernel -/

section Kernel
open Cert.KernelIdeal Cert.KernelIdeal.Gen

variable {m : (ℓ : Loc nD τ sig) → Buf (Elt Ideal) ℓ}

/-- What a buffer holds after the lines that follow the region. -/
abbrev afterAll (m : (ℓ : Loc nD τ sig) → Buf (Elt Ideal) ℓ) (c : Dev nD) (b : Ref sig .tc) : Buf (Elt Ideal) ((c : Thread nD τ).loc b) :=
  Pipeline.afterTail₀ cfgs (dats (F := Ideal) m) 0 (V0 m) [hostOps1] c b

/-- The arrays of the region, as the following lines find them. -/
theorem found1 (h : InSlabs m) (c : Dev nD) : Pipeline.withArrays (cfgs 0).spec c (V0 m c) (fun w => (dats (F := Ideal) m 0 c).arrAt w (cfgs 0).N) (Proc.devRef .tc main_v3_0) = arrScores m c :=
  (Pipeline.withArrays_arr spec0 launch0.win.arr_inj c (V0 m c) _ 1).trans (final1 h c)
theorem found2 (h : InSlabs m) (c : Dev nD) : Pipeline.withArrays (cfgs 0).spec c (V0 m c) (fun w => (dats (F := Ideal) m 0 c).arrAt w (cfgs 0).N) (Proc.devRef .tc main_v3_1) = arrLabels m c :=
  (Pipeline.withArrays_arr spec0 launch0.win.arr_inj c (V0 m c) _ 2).trans (final2 h c)
theorem found3 (h : InSlabs m) (c : Dev nD) : Pipeline.withArrays (cfgs 0).spec c (V0 m c) (fun w => (dats (F := Ideal) m 0 c).arrAt w (cfgs 0).N) (Proc.devRef .tc main_v3_2) = arrBoxes m c :=
  (Pipeline.withArrays_arr spec0 launch0.win.arr_inj c (V0 m c) _ 3).trans (final3 h c)

theorem after_v4 (h : InSlabs m) (c : Dev nD) : afterAll m c main_v4 = resScores (argX m c) := by
  have e : afterAll m c main_v4 = shapeCast S16x100 (arrScores m c) shapeCasts_S16x1x100_S16x100 := by
    rw [← found1 h c]
    unfold afterAll Pipeline.afterTail₀
    simp only [List.flatten_cons, List.flatten_nil, List.append_nil, hostOps1]
    after_results
    rfl
  rw [e]
  funext i
  have h0 : (i 0).val < 16 := (i 0).isLt
  have h1 : (i 1).val < 100 := (i 1).isLt
  refine (shapeCast_apply _ _ i (ix3 (⟨(i 0).val, h0⟩ : Fin 16) (0 : Fin 1) (⟨(i 1).val, h1⟩ : Fin 100)) ?_).trans ?_
  · rw [Shape.rowMajor_val_three, Shape.rowMajor_val_two]
    show ((i 0).val * 1 + 0) * 100 + (i 1).val = (i 0).val * 100 + (i 1).val
    omega
  · exact congrArg (resScores (argX m c)) (idx2_ext _ i rfl rfl)

theorem after_v5 (h : InSlabs m) (c : Dev nD) : afterAll m c main_v5 = resLabels (argX m c) := by
  have e : afterAll m c main_v5 = shapeCast S16x100 (arrLabels m c) shapeCasts_S16x1x100_S16x100 := by
    rw [← found2 h c]
    unfold afterAll Pipeline.afterTail₀
    simp only [List.flatten_cons, List.flatten_nil, List.append_nil, hostOps1]
    after_results
    rfl
  rw [e]
  funext i
  have h0 : (i 0).val < 16 := (i 0).isLt
  have h1 : (i 1).val < 100 := (i 1).isLt
  refine (shapeCast_apply _ _ i (ix3 (⟨(i 0).val, h0⟩ : Fin 16) (0 : Fin 1) (⟨(i 1).val, h1⟩ : Fin 100)) ?_).trans ?_
  · rw [Shape.rowMajor_val_three, Shape.rowMajor_val_two]
    show ((i 0).val * 1 + 0) * 100 + (i 1).val = (i 0).val * 100 + (i 1).val
    omega
  · exact congrArg (resLabels (argX m c)) (idx2_ext _ i rfl rfl)

theorem after_v7 (h : InSlabs m) (c : Dev nD) : afterAll m c main_v7 = resBoxes (argX m c) (argY m c) (argZ m c) := by
  have e : afterAll m c main_v7 = transpose S16x100x4 [0, 2, 1] (shapeCast S16x4x100 (arrBoxes m c) shapeCasts_S16x1x4x100_S16x4x100) transposes_S16x4x100_S16x100x4_0_2_1 := by
    rw [← found3 h c]
    unfold afterAll Pipeline.afterTail₀
    simp only [List.flatten_cons, List.flatten_nil, List.append_nil, hostOps1]
    after_results
    rfl
  rw [e]
  funext i
  have h0 : (i 0).val < 16 := (i 0).isLt
  have h1 : (i 1).val < 100 := (i 1).isLt
  have h2 : (i 2).val < 4 := (i 2).isLt
  refine (transpose_apply _ _ _ i (ix3 (⟨(i 0).val, h0⟩ : Fin 16) (⟨(i 2).val, h2⟩ : Fin 4) (⟨(i 1).val, h1⟩ : Fin 100)) ?_).trans ?_
  · intro a
    match a with
    | ⟨0, _⟩ => rfl
    | ⟨1, _⟩ => rfl
    | ⟨2, _⟩ => rfl
  refine (shapeCast_apply _ _ _ (ix4 (⟨(i 0).val, h0⟩ : Fin 16) (0 : Fin 1) (⟨(i 2).val, h2⟩ : Fin 4) (⟨(i 1).val, h1⟩ : Fin 100)) ?_).trans ?_
  · rw [Shape.rowMajor_val_four, Shape.rowMajor_val_three]
    show (((i 0).val * 1 + 0) * 4 + (i 2).val) * 100 + (i 1).val = ((i 0).val * 4 + (i 2).val) * 100 + (i 1).val
    omega
  · refine congrArg (resBoxes (argX m c) (argY m c) (argZ m c)) (funext fun a => ?_)
    match a with
    | ⟨0, _⟩ => rfl
    | ⟨1, _⟩ => rfl
    | ⟨2, _⟩ => rfl

/-- A buffer that no line after the region writes and no window stages holds what it held before the region. -/
theorem after_rest (m : (ℓ : Loc nD τ sig) → Buf (Elt Ideal) ℓ) (c : Dev nD) (b : Ref sig .tc)
    (hb : (hostOps1 : List (HloOp τ sig (Elt Ideal))).Forall fun op => Proc.devRef .tc b ∉ op.writes) (hw : ∀ w, Pipeline.arrRef spec0 w ≠ b) :
    afterAll m c b = V m c b := by
  unfold afterAll Pipeline.afterTail₀
  rw [StableHlo.after_of_forall_not_mem (b := Proc.devRef .tc b) _ _ (by
      simpa only [List.flatten_cons, List.flatten_nil, List.append_nil] using List.forall_iff_forall_mem.mp hb)]
  exact Pipeline.withArrays_of_ne _ c (V0 m c) _ b hw

theorem tail_writes (b : Ref sig .tc) (h4 : b ≠ main_v4) (h5 : b ≠ main_v5) (h6 : b ≠ main_v6) (h7 : b ≠ main_v7) :
    (hostOps1 : List (HloOp τ sig (Elt Ideal))).Forall fun op => Proc.devRef .tc b ∉ op.writes := by
  simp only [hostOps1, List.Forall, StableHlo.unary_writes, StableHlo.reshape_writes, Finset.mem_singleton]
  exact ⟨StableHlo.devRef_ne_of_ne h4, StableHlo.devRef_ne_of_ne h5, StableHlo.devRef_ne_of_ne h6, StableHlo.devRef_ne_of_ne h7⟩

/-- The kernel's run: its three results, its arguments unchanged, its semaphores at zero. -/
theorem kernel_run (h : InSlabs m) (ρ : Dev nD → PrngReg) :
    θ_run defs (onTc (τ := τ) (main (F := Ideal))) ⟨m, fun _ => 0, ρ⟩ fun r => (∀ c : Dev nD,
      r.2.mem ((c : Thread nD τ).loc main_v4) = resScores (argX m c) ∧ r.2.mem ((c : Thread nD τ).loc main_v5) = resLabels (argX m c)
      ∧ r.2.mem ((c : Thread nD τ).loc main_v7) = resBoxes (argX m c) (argY m c) (argZ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0 := by
  refine (θ_run defs _ _).mono (fun r hr => ⟨fun c => ?_, hr.2⟩) (run_whole (F := Ideal) m ρ (allSafe h))
  have hc := (hr.1 c).2
  exact ⟨(hc main_v4 (Pipeline.mem_restRefs_of main_v4 (by decide) (by decide))).trans (after_v4 h c),
    (hc main_v5 (Pipeline.mem_restRefs_of main_v5 (by decide) (by decide))).trans (after_v5 h c),
    (hc main_v7 (Pipeline.mem_restRefs_of main_v7 (by decide) (by decide))).trans (after_v7 h c),
    (hc main_arg0 (Pipeline.mem_restRefs_of main_arg0 (by decide) (by decide))).trans ((after_rest m c main_arg0 (tail_writes _ (by decide) (by decide) (by decide) (by decide)) (by exact (by decide : ∀ w, Pipeline.arrRef spec0 w ≠ main_arg0))).trans (V_main_arg0 m c)),
    (hc main_arg1 (Pipeline.mem_restRefs_of main_arg1 (by decide) (by decide))).trans ((after_rest m c main_arg1 (tail_writes _ (by decide) (by decide) (by decide) (by decide)) (by exact (by decide : ∀ w, Pipeline.arrRef spec0 w ≠ main_arg1))).trans (V_main_arg1 m c)),
    (hc main_arg2 (Pipeline.mem_restRefs_of main_arg2 (by decide) (by decide))).trans ((after_rest m c main_arg2 (tail_writes _ (by decide) (by decide) (by decide) (by decide)) (by exact (by decide : ∀ w, Pipeline.arrRef spec0 w ≠ main_arg2))).trans (V_main_arg2 m c)),
    (hc main_arg3 (Pipeline.mem_restRefs_of main_arg3 (by decide) (by decide))).trans ((after_rest m c main_arg3 (tail_writes _ (by decide) (by decide) (by decide) (by decide)) (by exact (by decide : ∀ w, Pipeline.arrRef spec0 w ≠ main_arg3))).trans (V_main_arg3 m c))⟩

end Kernel

/-! ## The reference -/

section Reference
open Cert.ReferenceIdeal Cert.ReferenceIdeal.Gen

/-- The reference's run: its three results, its arguments unchanged, its semaphores at zero. -/
theorem reference_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_values) = resScores (m ((c.tc : Thread nD τ).loc main_arg0))
      ∧ r.2.mem ((c.tc : Thread nD τ).loc main_v8) = resLabels (m ((c.tc : Thread nD τ).loc main_arg0))
      ∧ r.2.mem ((c.tc : Thread nD τ).loc main_v42) = resBoxes (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 := by
  refine (θ_run defs _ _).mono (fun r hr => ⟨fun c => ?_, sem_eq_zero_of_no_sems (by decide) r.2⟩) (Cert.ReferenceIdeal.Value.run (F := Ideal) m ρ)
  obtain ⟨e0, e1, e2, ea⟩ := hr c
  refine ⟨e0.trans (Ref.scores_eq _), e1.trans (Ref.labels_eq _), e2.trans ?_, ea⟩
  unfold Cert.ReferenceIdeal.Value.res_main_v42
  exact (Ref.res_out2_eq m c).trans (Ref.boxes_eq _ _ _)

end Reference

/-! ## The precondition -/

section Pre
open Cert.KernelIdeal Cert.KernelIdeal.Gen

theorem inSlabs_of_pre {m : (ℓ : Loc nD τ sig) → Buf (Elt Ideal) ℓ} (h : Cert.Pre_KernelIdeal m) : InSlabs m := by
  intro c b k
  have hp := pickOf_lt (argX m c) b k
  have e := congrFun (h c) (ix2 b k)
  have e' : IntOp.cmpi .slt (Ref.found (F := Ideal) (argX m c) (ix2 b k)) (nw 1817088) = 1#1 := e
  rw [(Ref.top_at (argX m c) b k).2] at e'
  have hlt : (nw (pickOf (argX m c) b k.val)).toInt < (nw 1817088).toInt := IntOp.cmpi_slt.mp e'
  rw [toInt_nw (by omega), toInt_nw (by omega)] at hlt
  exact_mod_cast hlt

end Pre

end Cert.Proof

end
-- ==== Proof.lean ====
/-
  The certificate, put together from the two runs: under the precondition the kernel ends with the scores, the labels and
  the boxes of the picks of every image, and the reference ends with the same three arrays whatever its arguments are.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_picks_in_whole_slabs
public import proofs.«01_k».proof.Proof.Runs
public import Idealize.ShloMosaic.Adequacy
public import Idealize.ShloMosaic.Init

@[expose] public section

noncomputable section

open Idealize.ShloMosaic Idealize.ShloMosaic.TcCoe
open Idealize.SL.Sem

namespace Cert.Proof

theorem frame_kernel : Cert.quiescent_KernelIdeal := fun m g hp =>
  (θ_run Cert.KernelIdeal.defs _ _).mono (fun _ hr => ⟨fun c => (hr.1 c).2.2.2, hr.2⟩) (kernel_run (inSlabs_of_pre hp) g)

theorem frame_reference : Cert.quiescent_ReferenceIdeal := fun m g _ =>
  (θ_run Cert.ReferenceIdeal.defs _ _).mono (fun _ hr => ⟨fun c => (hr.1 c).2.2.2, hr.2⟩) (reference_run m g)

theorem frame_reference_pre : Cert.quiescent_ReferenceIdeal_pre_picks_in_whole_slabs := fun m g _ =>
  (θ_run Cert.ReferenceIdeal.defs _ _).mono (fun _ hr => ⟨fun c => (hr.1 c).2.2.2, hr.2⟩) (reference_run m g)

/-- Both programs end with the picks of the kernel's arguments. -/
theorem algebraic : Cert.algebraic_KernelIdeal_ReferenceIdeal := fun m g m' g' hp harg => by
  refine ⟨fun c => resScores (argX m c), fun c => resLabels (argX m c), fun c => resBoxes (argX m c) (argY m c) (argZ m c),
    (θ_run Cert.KernelIdeal.defs _ _).mono (fun _ hr => hr.1) (kernel_run (inSlabs_of_pre hp) g),
    (θ_run Cert.ReferenceIdeal.defs _ _).mono (fun _ hr c => ?_) (reference_run m' g')⟩
  obtain ⟨a0, a1, -, a3⟩ := harg c
  obtain ⟨e0, e1, e2, ea⟩ := hr.1 c
  exact ⟨e0.trans (congrArg resScores a0), e1.trans (congrArg resLabels a0), e2.trans (by rw [a0, a1, a3]), ea⟩

theorem claim : Cert.Claim :=
  ⟨Cert.KernelIdeal.Gen.facts, Cert.ReferenceIdeal.Gen.facts, Cert.Pre_picks_in_whole_slabs.Gen.facts,
    frame_kernel, frame_reference, frame_reference_pre, algebraic⟩

end Cert.Proof

end
